-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x2048 : Shape := ⟨3, ![6, 256, 2048]⟩
abbrev S2048x3584 : Shape := ⟨2, ![2048, 3584]⟩
abbrev S128x448 : Shape := ⟨2, ![128, 448]⟩
abbrev S_ : Shape := ⟨0, ![]⟩
abbrev S1x1 : Shape := ⟨2, ![1, 1]⟩
abbrev S1536x2048 : Shape := ⟨2, ![1536, 2048]⟩
abbrev S1 : Shape := ⟨1, ![1]⟩
abbrev S1536x7168 : Shape := ⟨2, ![1536, 7168]⟩
abbrev S384x2048 : Shape := ⟨2, ![384, 2048]⟩
abbrev S2048x256 : Shape := ⟨2, ![2048, 256]⟩
abbrev S384x512 : Shape := ⟨2, ![384, 512]⟩
abbrev S14x2048x512 : Shape := ⟨3, ![14, 2048, 512]⟩
abbrev S56x128x128 : Shape := ⟨3, ![56, 128, 128]⟩
abbrev S8x128 : Shape := ⟨2, ![8, 128]⟩
abbrev S32x128 : Shape := ⟨2, ![32, 128]⟩
abbrev S32x64 : Shape := ⟨2, ![32, 64]⟩
abbrev S8x128x1 : Shape := ⟨3, ![8, 128, 1]⟩
abbrev S1x32x128 : Shape := ⟨3, ![1, 32, 128]⟩
abbrev S1x1x128 : Shape := ⟨3, ![1, 1, 128]⟩
abbrev S1x128 : Shape := ⟨2, ![1, 128]⟩
abbrev S16x128 : Shape := ⟨2, ![16, 128]⟩
abbrev S1x2048x512 : Shape := ⟨3, ![1, 2048, 512]⟩
abbrev S2048x512 : Shape := ⟨2, ![2048, 512]⟩

abbrev nBuf : Space → Nat
  | .hbm => 8
  | .vmem => 10
  | .smem => 2
  | _ => 0

abbrev bufTy : (tb : Table) → Fin (tcTables nBuf tb) → BufTy
  | .hbm, ⟨0, _⟩ => ⟨S6x256x2048, .bf16⟩
  | .hbm, ⟨1, _⟩ => ⟨S2048x3584, .i8⟩
  | .hbm, ⟨2, _⟩ => ⟨S128x448, .fp8e4m3⟩
  | .hbm, ⟨3, _⟩ => ⟨S_, .f32⟩
  | .hbm, ⟨4, _⟩ => ⟨S1x1, .f32⟩
  | .hbm, ⟨5, _⟩ => ⟨S1536x2048, .bf16⟩
  | .hbm, ⟨6, _⟩ => ⟨S1, .f32⟩
  | .hbm, ⟨7, _⟩ => ⟨S1536x7168, .bf16⟩
  | .local _ .vmem, ⟨0, _⟩ => ⟨S384x2048, .bf16⟩
  | .local _ .vmem, ⟨1, _⟩ => ⟨S384x2048, .bf16⟩
  | .local _ .vmem, ⟨2, _⟩ => ⟨S2048x256, .i8⟩
  | .local _ .vmem, ⟨3, _⟩ => ⟨S2048x256, .i8⟩
  | .local _ .vmem, ⟨4, _⟩ => ⟨S128x448, .fp8e4m3⟩
  | .local _ .vmem, ⟨5, _⟩ => ⟨S384x512, .bf16⟩
  | .local _ .vmem, ⟨6, _⟩ => ⟨S384x512, .bf16⟩
  | .local _ .vmem, ⟨7, _⟩ => ⟨S384x2048, .bf16⟩
  | .local _ .vmem, ⟨8, _⟩ => ⟨S14x2048x512, .bf16⟩
  | .local _ .vmem, ⟨9, _⟩ => ⟨S56x128x128, .f32⟩
  | .local _ .smem, ⟨0, _⟩ => ⟨S1x1, .f32⟩
  | .local _ .smem, ⟨1, _⟩ => ⟨S1, .f32⟩
  | _, _ => ⟨S6x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 14], ![false, false]⟩

def k0_cond2 (i : grid0.Coords) : BitVec 1 :=
  let arg0 : BitVec 32 := BitVec.ofNat 32 (i 0).val
  let c0_i32_3 : BitVec 32 := 0#32
  let v6 : BitVec 1 := Scalar.cmpi .eq arg0 c0_i32_3
  let v7 : BitVec 32 := Scalar.extui v6
  let c0_i32_4 : BitVec 32 := 0#32
  let v8 : BitVec 1 := Scalar.cmpi .ne v7 c0_i32_4
  v8

@[reducible] def k0_t1_loop : Scf.Loop 32 :=
  let c0_i32_18 : BitVec 32 := 0#32
  let c64_i32_19 : BitVec 32 := 64#32
  let v38 : BitVec 32 := Scalar.addi c0_i32_18 c64_i32_19
  let c1_i32_20 : BitVec 32 := 1#32
  ⟨c0_i32_18, v38, c1_i32_20⟩
def k0_mult1 (k0_t1 : Fin k0_t1_loop.trips) : BitVec 32 :=
  let c0_i32_18 : BitVec 32 := 0#32
  let c1_i32_20 : BitVec 32 := 1#32
  let arg11 : BitVec 32 := Scf.iv c0_i32_18 c1_i32_20 k0_t1
  let c32_i32 : BitVec 32 := 32#32
  let v39 : BitVec 32 := Scalar.muli arg11 c32_i32
  v39
def k0_off1 (k0_t1 : Fin k0_t1_loop.trips) : Fin 2 → Nat :=
  let c0_i32_18 : BitVec 32 := 0#32
  let c1_i32_20 : BitVec 32 := 1#32
  let arg11 : BitVec 32 := Scf.iv c0_i32_18 c1_i32_20 k0_t1
  let c32_i32 : BitVec 32 := 32#32
  let v39 : BitVec 32 := Scalar.muli arg11 c32_i32
  let v40 : BitVec 32 := v39
  let v41 : Index := Scalar.indexCast v40
  let c0_22 : Index := 0#32
  ![v41.toNat, 0]
def k0_off2 (i : grid0.Coords) (k0_t1 : Fin k0_t1_loop.trips) (c0_i32_25 : BitVec 32) (c0_i32_27 : BitVec 32) : Fin 3 → Nat :=
  let arg1 : BitVec 32 := BitVec.ofNat 32 (i 1).val
  let c4_i32 : BitVec 32 := 4#32
  let v62 : BitVec 32 := Scalar.muli arg1 c4_i32
  let v63 : BitVec 32 := Scalar.addi v62 c0_i32_25
  let v66 : Index := Scalar.indexCast v63
  let c2_i32_26 : BitVec 32 := 2#32
  let c0_i32_18 : BitVec 32 := 0#32
  let c1_i32_20 : BitVec 32 := 1#32
  let arg11 : BitVec 32 := Scf.iv c0_i32_18 c1_i32_20 k0_t1
  let v64 : BitVec 32 := Scalar.muli c2_i32_26 arg11
  let v65 : BitVec 32 := Scalar.addi v64 c0_i32_27
  let v67 : Index := Scalar.indexCast v65
  let c0_28 : Index := 0#32
  ![v66.toNat, v67.toNat, 0]
def k0_off3 (i : grid0.Coords) (k0_t1 : Fin k0_t1_loop.trips) : Fin 3 → Nat :=
  let arg1 : BitVec 32 := BitVec.ofNat 32 (i 1).val
  let v86 : Index := Scalar.indexCast arg1
  let c0_i32_18 : BitVec 32 := 0#32
  let c1_i32_20 : BitVec 32 := 1#32
  let arg11 : BitVec 32 := Scf.iv c0_i32_18 c1_i32_20 k0_t1
  let c32_i32 : BitVec 32 := 32#32
  let v39 : BitVec 32 := Scalar.muli arg11 c32_i32
  let v40 : BitVec 32 := v39
  let v87 : Index := Scalar.indexCast v40
  let c0_34 : Index := 0#32
  ![v86.toNat, v87.toNat, 0]
def k0_off4 (i : grid0.Coords) (k0_t1 : Fin k0_t1_loop.trips) : Fin 3 → Nat :=
  let arg1 : BitVec 32 := BitVec.ofNat 32 (i 1).val
  let v133 : Index := Scalar.indexCast arg1
  let c0_i32_18 : BitVec 32 := 0#32
  let c1_i32_20 : BitVec 32 := 1#32
  let arg11 : BitVec 32 := Scf.iv c0_i32_18 c1_i32_20 k0_t1
  let c32_i32 : BitVec 32 := 32#32
  let v39 : BitVec 32 := Scalar.muli arg11 c32_i32
  let v40 : BitVec 32 := v39
  let v134 : Index := Scalar.indexCast v40
  let c128 : Index := 128#32
  ![v133.toNat, v134.toNat, 128]
def k0_off5 (k0_t1 : Fin k0_t1_loop.trips) : Fin 2 → Nat :=
  let c0_i32_18 : BitVec 32 := 0#32
  let c1_i32_20 : BitVec 32 := 1#32
  let arg11 : BitVec 32 := Scf.iv c0_i32_18 c1_i32_20 k0_t1
  let c32_i32 : BitVec 32 := 32#32
  let v39 : BitVec 32 := Scalar.muli arg11 c32_i32
  let v40 : BitVec 32 := v39
  let v138 : Index := Scalar.indexCast v40
  let c128_50 : Index := 128#32
  ![v138.toNat, 128]
def k0_off6 (i : grid0.Coords) (k0_t1 : Fin k0_t1_loop.trips) : Fin 3 → Nat :=
  let arg1 : BitVec 32 := BitVec.ofNat 32 (i 1).val
  let v183 : Index := Scalar.indexCast arg1
  let c0_i32_18 : BitVec 32 := 0#32
  let c1_i32_20 : BitVec 32 := 1#32
  let arg11 : BitVec 32 := Scf.iv c0_i32_18 c1_i32_20 k0_t1
  let c32_i32 : BitVec 32 := 32#32
  let v39 : BitVec 32 := Scalar.muli arg11 c32_i32
  let v40 : BitVec 32 := v39
  let v184 : Index := Scalar.indexCast v40
  let c256 : Index := 256#32
  ![v183.toNat, v184.toNat, 256]
def k0_off7 (i : grid0.Coords) (k0_t1 : Fin k0_t1_loop.trips) : Fin 3 → Nat :=
  let arg1 : BitVec 32 := BitVec.ofNat 32 (i 1).val
  let v230 : Index := Scalar.indexCast arg1
  let c0_i32_18 : BitVec 32 := 0#32
  let c1_i32_20 : BitVec 32 := 1#32
  let arg11 : BitVec 32 := Scf.iv c0_i32_18 c1_i32_20 k0_t1
  let c32_i32 : BitVec 32 := 32#32
  let v39 : BitVec 32 := Scalar.muli arg11 c32_i32
  let v40 : BitVec 32 := v39
  let v231 : Index := Scalar.indexCast v40
  let c384 : Index := 384#32
  ![v230.toNat, v231.toNat, 384]
def k0_off8 (i : grid0.Coords) : Fin 3 → Nat :=
  let arg1 : BitVec 32 := BitVec.ofNat 32 (i 1).val
  let v13 : Index := Scalar.indexCast arg1
  let c0_9 : Index := 0#32
  let c0_10 : Index := 0#32
  ![v13.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c13_i32 : BitVec 32 := 13#32
  let v1 : BitVec 32 := Scalar.select v0 arg1 c13_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x448 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S6x256x2048 : Shape := ⟨3, ![6, 256, 2048]⟩
abbrev S2048x3584 : Shape := ⟨2, ![2048, 3584]⟩
abbrev S128x448 : Shape := ⟨2, ![128, 448]⟩
abbrev S_ : Shape := ⟨0, ![]⟩
abbrev S1x1 : Shape := ⟨2, ![1, 1]⟩
abbrev S2048x3584x1 : Shape := ⟨3, ![2048, 3584, 1]⟩
abbrev S2048x3584x2 : Shape := ⟨3, ![2048, 3584, 2]⟩
abbrev S128x16x448x8x2 : Shape := ⟨5, ![128, 16, 448, 8, 2]⟩
abbrev S128x1x448x1x1 : Shape := ⟨5, ![128, 1, 448, 1, 1]⟩
abbrev S2048x7168 : Shape := ⟨2, ![2048, 7168]⟩
abbrev S1536x2048 : Shape := ⟨2, ![1536, 2048]⟩
abbrev S1536x7168 : Shape := ⟨2, ![1536, 7168]⟩

abbrev nBuf : Space → Nat
  | .hbm => 78
  | .vmem => 2
  | .smem => 0
  | _ => 0

abbrev bufTy : (tb : Table) → Fin (tcTables nBuf tb) → BufTy
  | .hbm, ⟨0, _⟩ => ⟨S6x256x2048, .bf16⟩
  | .hbm, ⟨1, _⟩ => ⟨S2048x3584, .i8⟩
  | .hbm, ⟨2, _⟩ => ⟨S128x448, .fp8e4m3⟩
  | .hbm, ⟨3, _⟩ => ⟨S_, .f32⟩
  | .hbm, ⟨4, _⟩ => ⟨S1x1, .f32⟩
  | .hbm, ⟨5, _⟩ => ⟨S128x448, .bf16⟩
  | .hbm, ⟨6, _⟩ => ⟨S2048x3584, .i32⟩
  | .hbm, ⟨7, _⟩ => ⟨S_, .i32⟩
  | .hbm, ⟨8, _⟩ => ⟨S2048x3584, .i32⟩
  | .hbm, ⟨9, _⟩ => ⟨S2048x3584, .i32⟩
  | .hbm, ⟨10, _⟩ => ⟨S_, .i32⟩
  | .hbm, ⟨11, _⟩ => ⟨S2048x3584, .i32⟩
  | .hbm, ⟨12, _⟩ => ⟨S2048x3584, .i32⟩
  | .hbm, ⟨13, _⟩ => ⟨S2048x3584x1, .i32⟩
  | .hbm, ⟨14, _⟩ => ⟨S2048x3584x1, .i32⟩
  | .hbm, ⟨15, _⟩ => ⟨S2048x3584x2, .i32⟩
  | .hbm, ⟨16, _⟩ => ⟨S_, .i32⟩
  | .hbm, ⟨17, _⟩ => ⟨S2048x3584x2, .i32⟩
  | .hbm, ⟨18, _⟩ => ⟨S2048x3584x2, .i32⟩
  | .hbm, ⟨19, _⟩ => ⟨S_, .i32⟩
  | .hbm, ⟨20, _⟩ => ⟨S2048x3584x2, .i32⟩
  | .hbm, ⟨21, _⟩ => ⟨S2048x3584x2, .i32⟩
  | .hbm, ⟨22, _⟩ => ⟨S_, .i32⟩
  | .hbm, ⟨23, _⟩ => ⟨S2048x3584x2, .i32⟩
  | .hbm, ⟨24, _⟩ => ⟨S2048x3584x2, .i32⟩
  | .hbm, ⟨25, _⟩ => ⟨S_, .i32⟩
  | .hbm, ⟨26, _⟩ => ⟨S2048x3584x2, .i32⟩
  | .hbm, ⟨27, _⟩ => ⟨S2048x3584x2, .i32⟩
  | .hbm, ⟨28, _⟩ => ⟨S_, .i32⟩
  | .hbm, ⟨29, _⟩ => ⟨S2048x3584x2, .i32⟩
  | .hbm, ⟨30, _⟩ => ⟨S2048x3584x2, .i32⟩
  | .hbm, ⟨31, _⟩ => ⟨S2048x3584x2, .f32⟩
  | .hbm, ⟨32, _⟩ => ⟨S_, .i32⟩
  | .hbm, ⟨33, _⟩ => ⟨S2048x3584x2, .i32⟩
  | .hbm, ⟨34, _⟩ => ⟨S2048x3584x2, .i1⟩
  | .hbm, ⟨35, _⟩ => ⟨S_, .i32⟩
  | .hbm, ⟨36, _⟩ => ⟨S2048x3584x2, .i32⟩
  | .hbm, ⟨37, _⟩ => ⟨S2048x3584x2, .i1⟩
  | .hbm, ⟨38, _⟩ => ⟨S_, .f32⟩
  | .hbm, ⟨39, _⟩ => ⟨S2048x3584x2, .f32⟩
  | .hbm, ⟨40, _⟩ => ⟨S_, .f32⟩
  | .hbm, ⟨41, _⟩ => ⟨S2048x3584x2, .f32⟩
  | .hbm, ⟨42, _⟩ => ⟨S2048x3584x2, .f32⟩
  | .hbm, ⟨43, _⟩ => ⟨S_, .f32⟩
  | .hbm, ⟨44, _⟩ => ⟨S2048x3584x2, .f32⟩
  | .hbm, ⟨45, _⟩ => ⟨S2048x3584x2, .f32⟩
  | .hbm, ⟨46, _⟩ => ⟨S_, .i32⟩
  | .hbm, ⟨47, _⟩ => ⟨S2048x3584x2, .i32⟩
  | .hbm, ⟨48, _⟩ => ⟨S2048x3584x2, .i1⟩
  | .hbm, ⟨49, _⟩ => ⟨S_, .f32⟩
  | .hbm, ⟨50, _⟩ => ⟨S2048x3584x2, .f32⟩
  | .hbm, ⟨51, _⟩ => ⟨S2048x3584x2, .f32⟩
  | .hbm, ⟨52, _⟩ => ⟨S_, .f32⟩
  | .hbm, ⟨53, _⟩ => ⟨S2048x3584x2, .f32⟩
  | .hbm, ⟨54, _⟩ => ⟨S2048x3584x2, .f32⟩
  | .hbm, ⟨55, _⟩ => ⟨S_, .f32⟩
  | .hbm, ⟨56, _⟩ => ⟨S2048x3584x2, .f32⟩
  | .hbm, ⟨57, _⟩ => ⟨S2048x3584x2, .f32⟩
  | .hbm, ⟨58, _⟩ => ⟨S2048x3584x2, .f32⟩
  | .hbm, ⟨59, _⟩ => ⟨S2048x3584x2, .f32⟩
  | .hbm, ⟨60, _⟩ => ⟨S_, .i32⟩
  | .hbm, ⟨61, _⟩ => ⟨S2048x3584x2, .i32⟩
  | .hbm, ⟨62, _⟩ => ⟨S2048x3584x2, .i1⟩
  | .hbm, ⟨63, _⟩ => ⟨S2048x3584x2, .f32⟩
  | .hbm, ⟨64, _⟩ => ⟨S2048x3584x2, .f32⟩
  | .hbm, ⟨65, _⟩ => ⟨S2048x3584x2, .bf16⟩
  | .hbm, ⟨66, _⟩ => ⟨S128x16x448x8x2, .bf16⟩
  | .hbm, ⟨67, _⟩ => ⟨S128x1x448x1x1, .bf16⟩
  | .hbm, ⟨68, _⟩ => ⟨S128x16x448x8x2, .bf16⟩
  | .hbm, ⟨69, _⟩ => ⟨S128x16x448x8x2, .bf16⟩
  | .hbm, ⟨70, _⟩ => ⟨S2048x7168, .bf16⟩
  | .hbm, ⟨71, _⟩ => ⟨S1536x2048, .bf16⟩
  | .hbm, ⟨72, _⟩ => ⟨S1536x7168, .f32⟩
  | .hbm, ⟨73, _⟩ => ⟨S_, .f32⟩
  | .hbm, ⟨74, _⟩ => ⟨S_, .f32⟩
  | .hbm, ⟨75, _⟩ => ⟨S1536x7168, .f32⟩
  | .hbm, ⟨76, _⟩ => ⟨S1536x7168, .f32⟩
  | .hbm, ⟨77, _⟩ => ⟨S1536x7168, .bf16⟩
  | .local _ .vmem, ⟨0, _⟩ => ⟨S128x448, .fp8e4m3⟩
  | .local _ .vmem, ⟨1, _⟩ => ⟨S128x448, .bf16⟩
  | _, _ => ⟨S6x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_c_10 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_v32 : Ref sig .tc := ⟨.hbm, 51, rfl⟩
abbrev main_cst_12 : Ref sig .tc := ⟨.hbm, 52, rfl⟩
abbrev main_v33 : Ref sig .tc := ⟨.hbm, 53, rfl⟩
abbrev main_v34 : Ref sig .tc := ⟨.hbm, 54, rfl⟩
abbrev main_cst_13 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_14 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x448 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x448 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KRuns.lean ====
/- The printed kernel: what the runs of its body share. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      (Pipeline.RDat.FramePost.arr_in h c 4 rfl).trans ((hA c 4).trans (V_main_arg2 m c)),
      ((h c).2 main_arg3 (Pipeline.mem_restRefs_of main_arg3 (by decide) (by decide))).trans (V_main_arg3 m c),
      (Pipeline.RDat.FramePost.arr_in h c 0 rfl).trans ((hA c 0).trans (V_main_arg4 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 56 = 0 :=
  (fun t => by
    have ht : t.val < 56 := Nat.lt_of_lt_of_eq t.isLt N_0
    have e0 : (grid0.coords t 0).val = t.val / 14 % 4 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 56 = 0)

/-- The condition of the body's `scf.if` 1 (`k0_h2`), from the grid coordinates (the skeleton's scalar
    chain substituted). -/
abbrev cond0_1 (i : grid0.Coords) : Prop := k0_cond2 i = 1#1
/-- It holds at the points before point 14 — by arithmetic of the point. -/
theorem hcond0_1 : ∀ t : Fin cfg0.N, cond0_1 (grid0.coords t) ↔ t.val < 14 :=
  (fun t => by
    have ht : t.val < 56 := Nat.lt_of_lt_of_eq t.isLt N_0
    have e0 : (grid0.coords t 0).val = t.val / 14 % 4 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ t.val < 14)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_2 : ∀ t : Fin cfg0.N, cond0_2 (grid0.coords t) ↔ t.val % 14 = 0 :=
  (fun t => by
    have ht : t.val < 56 := Nat.lt_of_lt_of_eq t.isLt N_0
    have e0 : (grid0.coords t 0).val = t.val / 14 % 4 := Pipeline.Grid.coords_val t 0 (by decide) rfl
    have e1 : (grid0.coords t 1).val = t.val / 1 % 14 := Pipeline.Grid.coords_val t 1 (by decide) rfl
    simp only [cond0_2, e0, e1]
    word_cmp
   : ∀ t : Fin grid0.N, cond0_2 (grid0.coords t) ↔ t.val % 14 = 0)

/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x448 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S384x2048 .bf16 := Memref.whole cc0_scratch0
abbrev scM0_1 : Memref sig .tc .vmem S14x2048x512 .bf16 := Memref.whole cc0_scratch1
abbrev scM0_2 : Memref sig .tc .vmem S56x128x128 .f32 := Memref.whole cc0_scratch2
/-- The scratch `arg10` the kernel carries between points, as a view: what it holds is stated through it. -/
abbrev VS0_2 : View sig .tc .vmem S56x128x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KRunA.lean ====
/- The printed kernel: the run of its body in case A of its branch conditions. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4752000 in
/-- What the body's stores leave in each output's staging memref, as pieces (last first) IN CASE A (`scf.if` 0 taken, `scf.if` 1 taken, `scf.if` 2 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_A (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : cond0_0 i) (hc1 : cond0_1 i) (hc2 : cond0_2 i)
    (x0 : Vec F S1x1 .f32) (x1 : Vec F S1 .f32) (x2 : Vec F S384x2048 .bf16) (x3 : Vec F S2048x256 .i8) (x4 : Vec F S128x448 .fp8e4m3) :
    { LS2 : List (View.Piece (Elt F) S56x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS2)) -∗ K ⟨⟩))
          ⊢ wp frame (wpE (defs₀ (F := F)) Variants.none c none) E (cc0_dgrad_main i arg2 harg2 arg3 harg3 arg4 harg4 arg5 harg5 arg6 harg6 arg7 harg7 arg8 harg8 arg9 harg9 arg10 harg10) K } := by
  refine ⟨?_, fun E K => ?run⟩
  case run =>
    simp only [cc0_dgrad_main_eq_skeleton]; unfold cc0_dgrad_main_skel
    simp only [k0_part219_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part220_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part221_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part222_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _; iexact HS2

end Cert.Kernel.Gen

end
-- ==== Proof.KRunB.lean ====
/- The printed kernel: the run of its body in case B of its branch conditions. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 13: 13 of 56), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_B (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : cond0_1 i) (hc2 : ¬cond0_2 i)
    (x0 : Vec F S1x1 .f32) (x1 : Vec F S1 .f32) (x2 : Vec F S384x2048 .bf16) (x3 : Vec F S2048x256 .i8) (x4 : Vec F S128x448 .fp8e4m3) (xs2 : Vec F S56x128x128 .f32) :
    { LS2 : List (View.Piece (Elt F) S56x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2) -∗ K ⟨⟩))
          ⊢ wp frame (wpE (defs₀ (F := F)) Variants.none c none) E (cc0_dgrad_main i arg2 harg2 arg3 harg3 arg4 harg4 arg5 harg5 arg6 harg6 arg7 harg7 arg8 harg8 arg9 harg9 arg10 harg10) K } := by
  refine ⟨[], fun E K => ?run⟩
  case run =>
    simp only [cc0_dgrad_main_eq_skeleton]; unfold cc0_dgrad_main_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _; isplitr; · ipureintro; exact harg10.read_unread _
    iexact HS2

end Cert.Kernel.Gen

end
-- ==== Proof.KRunC.lean ====
/- The printed kernel: the run of its body in case C of its branch conditions. -/
module

public import proofs.«01_k».proof.Proof.KRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 14, 28, 42), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_C (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : cond0_2 i)
    (x0 : Vec F S1x1 .f32) (x1 : Vec F S1 .f32) (x2 : Vec F S384x2048 .bf16) (x3 : Vec F S2048x256 .i8) (x4 : Vec F S128x448 .fp8e4m3) (xs2 : Vec F S56x128x128 .f32) :
    { LS2 : List (View.Piece (Elt F) S56x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2) -∗ K ⟨⟩))
          ⊢ wp frame (wpE (defs₀ (F := F)) Variants.none c none) E (cc0_dgrad_main i arg2 harg2 arg3 harg3 arg4 harg4 arg5 harg5 arg6 harg6 arg7 harg7 arg8 harg8 arg9 harg9 arg10 harg10) K } := by
  refine ⟨[], fun E K => ?run⟩
  case run =>
    simp only [cc0_dgrad_main_eq_skeleton]; unfold cc0_dgrad_main_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _; isplitr; · ipureintro; exact harg10.read_unread _
    iexact HS2

end Cert.Kernel.Gen

end
-- ==== Proof.KRunD.lean ====
/- The printed kernel: the run of its body in case D of its branch conditions. -/
module

public import proofs.«01_k».proof.Proof.KRunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken: points 15, 16, … 55: 39 of 56), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_D (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : ¬cond0_2 i)
    (x0 : Vec F S1x1 .f32) (x1 : Vec F S1 .f32) (x2 : Vec F S384x2048 .bf16) (x3 : Vec F S2048x256 .i8) (x4 : Vec F S128x448 .fp8e4m3) (xs2 : Vec F S56x128x128 .f32) :
    { LS2 : List (View.Piece (Elt F) S56x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2) -∗ K ⟨⟩))
          ⊢ wp frame (wpE (defs₀ (F := F)) Variants.none c none) E (cc0_dgrad_main i arg2 harg2 arg3 harg3 arg4 harg4 arg5 harg5 arg6 harg6 arg7 harg7 arg8 harg8 arg9 harg9 arg10 harg10) K } := by
  refine ⟨[], fun E K => ?run⟩
  case run =>
    simp only [cc0_dgrad_main_eq_skeleton]; unfold cc0_dgrad_main_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _; isplitr; · ipureintro; exact harg10.read_unread _
    iexact HS2

end Cert.Kernel.Gen

end
-- ==== Proof.KFrame.lean ====
/- The printed kernel: every run of it ends, leaves its arguments as they were, and leaves no semaphore raised.
   What the result holds is not named here. -/
module

public import proofs.«01_k».proof.Proof.KRunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 224 pieces of `S1x32x128` tiling it (Lib/Ring.lean `Piece.tiledL`). -/
theorem scover0_A_2 (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : cond0_0 i) (hc1 : cond0_1 i) (hc2 : cond0_2 i)
    (x0 : Vec F S1x1 .f32) (x1 : Vec F S1 .f32) (x2 : Vec F S384x2048 .bf16) (x3 : Vec F S2048x256 .i8) (x4 : Vec F S128x448 .fp8e4m3) (y : S56x128x128.Idx) :
    ∃ pc ∈ (kernelRun0_A c i arg2 harg2 arg3 harg3 arg4 harg4 arg5 harg5 arg6 harg6 arg7 harg7 arg8 harg8 arg9 harg9 arg10 harg10 hc0 hc1 hc2 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3 x4).1 S1x32x128.size (by sl_kernel_rfl) y

/-- What case A leaves in scratch `arg10`: its pieces read back over junk. -/
def sout0_A_2 (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : cond0_0 i) (hc1 : cond0_1 i) (hc2 : cond0_2 i)
    (x0 : Vec F S1x1 .f32) (x1 : Vec F S1 .f32) (x2 : Vec F S384x2048 .bf16) (x3 : Vec F S2048x256 .i8) (x4 : Vec F S128x448 .fp8e4m3) : Vec F S56x128x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 hc2 x0 x1 x2 x3 x4).1)

/-- Case B stores nothing into scratch `arg10`: it holds what the point before left. -/
def sout0_B_2 (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : cond0_1 i) (hc2 : ¬cond0_2 i)
    (x0 : Vec F S1x1 .f32) (x1 : Vec F S1 .f32) (x2 : Vec F S384x2048 .bf16) (x3 : Vec F S2048x256 .i8) (x4 : Vec F S128x448 .fp8e4m3) (xs2 : Vec F S56x128x128 .f32) : Vec F S56x128x128 .f32 := xs2

/-- Case C stores nothing into scratch `arg10`: it holds what the point before left. -/
def sout0_C_2 (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : cond0_2 i)
    (x0 : Vec F S1x1 .f32) (x1 : Vec F S1 .f32) (x2 : Vec F S384x2048 .bf16) (x3 : Vec F S2048x256 .i8) (x4 : Vec F S128x448 .fp8e4m3) (xs2 : Vec F S56x128x128 .f32) : Vec F S56x128x128 .f32 := xs2

/-- Case D stores nothing into scratch `arg10`: it holds what the point before left. -/
def sout0_D_2 (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : ¬cond0_2 i)
    (x0 : Vec F S1x1 .f32) (x1 : Vec F S1 .f32) (x2 : Vec F S384x2048 .bf16) (x3 : Vec F S2048x256 .i8) (x4 : Vec F S128x448 .fp8e4m3) (xs2 : Vec F S56x128x128 .f32) : Vec F S56x128x128 .f32 := xs2

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S56x128x128 .f32
  | 0, hn => sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 56 = 0 then
      if h1 : (n + 1) < 14 then
        if h2 : (n + 1) % 14 = 0 then
          sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩)
        else
          False.elim (by have hN : n + 1 < 56 := lt_of_lt_of_eq hn (show cfg0.N = 56 from N_0); omega)
      else
        False.elim (by have hN : n + 1 < 56 := lt_of_lt_of_eq hn (show cfg0.N = 56 from N_0); omega)
    else
      if h1 : (n + 1) < 14 then
        if h2 : (n + 1) % 14 = 0 then
          False.elim (by have hN : n + 1 < 56 := lt_of_lt_of_eq hn (show cfg0.N = 56 from N_0); omega)
        else
          sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
      else
        if h2 : (n + 1) % 14 = 0 then
          sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
        else
          sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 56 = 0) (h1 : t.val < 14) (h2 : t.val % 14 = 0) :
    outsAt0 m c t.val t.isLt = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) ((hcond0_2 t).mpr h2) (iblk m c 0 t) (iblk m c 1 t) (iblk m c 2 t) (iblk m c 3 t) (iblk m c 4 t) := by
  obtain ⟨n, hn⟩ := t
  cases n with
  | zero => exact rfl
  | succ n => exact (dif_pos h0).trans ((dif_pos h1).trans ((dif_pos h2).trans rfl))

/-- `outsAt0` at a point of case B: that case's contents, over what the point before left. -/
theorem outsAt0_B (c : Dev nD) (t : Fin cfg0.N) (h0 : ¬t.val % 56 = 0) (h1 : t.val < 14) (h2 : ¬t.val % 14 = 0) :
    outsAt0 m c t.val t.isLt = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 56 = 0) (h1 : ¬t.val < 14) (h2 : t.val % 14 = 0) :
    outsAt0 m c t.val t.isLt = sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case D: that case's contents, over what the point before left. -/
theorem outsAt0_D (c : Dev nD) (t : Fin cfg0.N) (h0 : ¬t.val % 56 = 0) (h1 : ¬t.val < 14) (h2 : ¬t.val % 14 = 0) :
    outsAt0 m c t.val t.isLt = sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)))) ∗ (∃ r, prngReg c r)) := by
  cases n with
  | zero => exact absurd rfl hz
  | succ n => rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 56 := lt_of_lt_of_eq t.isLt (show cfg0.N = 56 from N_0)
  by_cases h0 : t.val % 56 = 0
  · by_cases h1 : t.val < 14
    · by_cases h2 : t.val % 14 = 0
      · by_cases hz : t.val = 0
        · rw [PhiS_castSucc m c t, PhiS_zero m c _ _ hz, PhiA0_eq]
          rw [outsAt0_A m c t h0 h1 h2]
          unfold sout0_A_2
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t)).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, H5, HS0, HS1, ⟨%es2, HS2⟩⟩
          isplitl [HS0 HS1 HS2 Hg]
          · isplitl [HS0 HS1 HS2]
            · isplitl [HS0]
              · iexact HS0
              isplitl [HS1]
              · iexact HS1
              unfold owns; iexists _; isplitr
              swap; · iexact HS2
              ipureintro; exact View.read_writes_of_cover _ _ _ _ _ (scover0_A_2 c _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexact H5
        · exfalso; have hN : t.val < 56 := lt_of_lt_of_eq t.isLt (show cfg0.N = 56 from N_0); omega
      · exfalso; omega
    · exfalso; omega
  · by_cases h1 : t.val < 14
    · by_cases h2 : t.val % 14 = 0
      · exfalso; omega
      · by_cases hz : t.val = 0
        · exfalso; have hN : t.val < 56 := lt_of_lt_of_eq t.isLt (show cfg0.N = 56 from N_0); omega
        · rw [PhiS_castSucc m c t, PhiS_pos m c _ _ hz]
          rw [outsAt0_B m c t h0 h1 h2]
          unfold sout0_B_2
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, H5, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          iexact H5
    · by_cases h2 : t.val % 14 = 0
      · by_cases hz : t.val = 0
        · exfalso; have hN : t.val < 56 := lt_of_lt_of_eq t.isLt (show cfg0.N = 56 from N_0); omega
        · rw [PhiS_castSucc m c t, PhiS_pos m c _ _ hz]
          rw [outsAt0_C m c t h0 h1 h2]
          unfold sout0_C_2
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, H5, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          iexact H5
      · by_cases hz : t.val = 0
        · exfalso; have hN : t.val < 56 := lt_of_lt_of_eq t.isLt (show cfg0.N = 56 from N_0); omega
        · rw [PhiS_castSucc m c t, PhiS_pos m c _ _ hz]
          rw [outsAt0_D m c t h0 h1 h2]
          unfold sout0_D_2
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_D c (grid0.coords t) _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, H5, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 56 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.RunBase.lean ====
/- What the four runs of the kernel body share: its branch conditions in closed form over the grid points, the staging
   and scratch memrefs as the pipeline passes them, and the invariant of the launch with the scratch buffers named. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 56 = 0 :=
  (fun t => by
    have ht : t.val < 56 := Nat.lt_of_lt_of_eq t.isLt N_0
    have e0 : (grid0.coords t 0).val = t.val / 14 % 4 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 56 = 0)

/-- The condition of the body's `scf.if` 1 (`k0_h2`), from the grid coordinates (the skeleton's scalar
    chain substituted). -/
abbrev cond0_1 (i : grid0.Coords) : Prop := k0_cond2 i = 1#1
/-- It holds at the points before point 14 — by arithmetic of the point. -/
theorem hcond0_1 : ∀ t : Fin cfg0.N, cond0_1 (grid0.coords t) ↔ t.val < 14 :=
  (fun t => by
    have ht : t.val < 56 := Nat.lt_of_lt_of_eq t.isLt N_0
    have e0 : (grid0.coords t 0).val = t.val / 14 % 4 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ t.val < 14)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_2 : ∀ t : Fin cfg0.N, cond0_2 (grid0.coords t) ↔ t.val % 14 = 0 :=
  (fun t => by
    have ht : t.val < 56 := Nat.lt_of_lt_of_eq t.isLt N_0
    have e0 : (grid0.coords t 0).val = t.val / 14 % 4 := Pipeline.Grid.coords_val t 0 (by decide) rfl
    have e1 : (grid0.coords t 1).val = t.val / 1 % 14 := Pipeline.Grid.coords_val t 1 (by decide) rfl
    simp only [cond0_2, e0, e1]
    word_cmp
   : ∀ t : Fin grid0.N, cond0_2 (grid0.coords t) ↔ t.val % 14 = 0)

/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x448 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S384x2048 .bf16 := Memref.whole cc0_scratch0
abbrev scM0_1 : Memref sig .tc .vmem S14x2048x512 .bf16 := Memref.whole cc0_scratch1
abbrev scM0_2 : Memref sig .tc .vmem S56x128x128 .f32 := Memref.whole cc0_scratch2
/-- The scratch `arg10` the kernel carries between points, as a view: what it holds is stated through it. -/
abbrev VS0_2 : View sig .tc .vmem S56x128x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.RunX.lean ====
/- The run of the kernel body's first conditional: the block scales of the weights, expanded along the lanes. -/
module

public import proofs.«01_k».proof.Proof.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The statements of the first conditional, as printed. -/
noncomputable def expandProg (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) :
    Prog (TpuEff nD τ sig (Elt F) Λ₀ .tc) PUnit := do
  let ⟨v23, v2509, v2513, v2517, v2523, v2743⟩ : Σ' (v23 : IVec S8x128 32) (v2509 : FVec F S32x128 .f32) (v2513 : FVec F S32x128 .f32) (v2517 : FVec F S32x128 .f32) (v2523 : FVec F S32x128 .f32), FVec F S1x32x128 .f32 ← k0_part219 i arg2 harg2 arg3 harg3 arg4 harg4 arg5 harg5 arg6 harg6 arg7 harg7 arg8 harg8 arg9 harg9 arg10 harg10
  let ⟨v4991, v4995, v4999, v5005, v5449, v5458, v5467, v5468, c0_i32_1569⟩ : Σ' (v4991 : FVec F S32x128 .f32) (v4995 : FVec F S32x128 .f32) (v4999 : FVec F S32x128 .f32) (v5005 : FVec F S32x128 .f32) (v5449 : IVec S8x128 32) (v5458 : FVec F S8x128 .f32) (v5467 : FVec F S8x128 .f32) (v5468 : FVec F S8x128 .f32), BitVec 32 ← k0_part220 i arg2 harg2 arg3 harg3 arg4 harg4 arg5 harg5 arg6 harg6 arg7 harg7 arg8 harg8 arg9 harg9 arg10 harg10 v23 v2509 v2513 v2517 v2523 v2743
  let ⟨v7477, v7481, v7487, v8193⟩ : Σ' (v7477 : FVec F S32x128 .f32) (v7481 : FVec F S32x128 .f32) (v7487 : FVec F S32x128 .f32), IVec S8x128 32 ← k0_part221 i arg2 harg2 arg3 harg3 arg4 harg4 arg5 harg5 arg6 harg6 arg7 harg7 arg8 harg8 arg9 harg9 arg10 harg10 v23 v4991 v4995 v4999 v5005 v5449 v5458 v5467 v5468 c0_i32_1569
  let ⟨v9911, v9920, v9929, v9938, v9939, v9941⟩ : Σ' (v9911 : IVec S8x128 32) (v9920 : FVec F S8x128 .f32) (v9929 : FVec F S8x128 .f32) (v9938 : FVec F S8x128 .f32) (v9939 : FVec F S8x128 .f32), IVec S8x128 1 ← k0_part222 i arg2 harg2 arg3 harg3 arg4 harg4 arg5 harg5 arg6 harg6 arg7 harg7 arg8 harg8 arg9 harg9 arg10 harg10 v23 v7477 v7481 v7487 v8193
  let v9949 : Vec F S1x32x128 .f32 ← Prog.lift (.load arg10 (Rect.unit (s := S56x128x128) ![55, 96, 0] S1x32x128.size inb_S56x128x128_S1x32x128_55_96_0).toLoadRect (View.loadsAt_vmem h_S1x32x128))
  Prog.lift (.store arg10 (Rect.unit (s := S56x128x128) ![55, 96, 0] S1x32x128.size inb_S56x128x128_S1x32x128_55_96_0) (k0_pay1 v9911 v9920 v9929 v9938 v9939 v9941) Finset.univ (View.stores_vmem_bits_univ h_S1x32x128 rfl) (.inl rfl))
  pure ⟨⟩

set_option maxHeartbeats 4780000 in
/-- What the conditional's stores leave in the scale scratch, as pieces, with the proof that it runs to them. -/
noncomputable def runX (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole)
    (x5 : Vec F S128x448 .fp8e4m3) (xs2 : Vec F S56x128x128 .f32) :
    { W : List (View.Piece (Elt F) S56x128x128 .f32) //
      ∀ (E : Set ℕ) (K : PUnit → sProp 𝕄),
        iprop(owns (c : Thread nD τ) arg6 fullShare x5 ∗ owns (c : Thread nD τ) arg10 fullShare xs2
            ∗ (iprop(owns (c : Thread nD τ) arg6 fullShare x5 ∗ (arg10.view.loc (c : Thread nD τ) ↦[arg10.view.set]{fullShare} arg10.view.writes (Elt F) (harg10.unread xs2) W)) -∗ K ⟨⟩))
          ⊢ wp frame (wpE (defs₀ (F := F)) Variants.none c none) E (expandProg i arg2 harg2 arg3 harg3 arg4 harg4 arg5 harg5 arg6 harg6 arg7 harg7 arg8 harg8 arg9 harg9 arg10 harg10) K } := by
  refine ⟨?_, fun E K => ?run⟩
  case run =>
    unfold expandProg
    simp only [k0_part219_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part220_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part221_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part222_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton]
    unfold owns
    iintro ⟨⟨%f6, %hf6, H6⟩, ⟨%f10, %hf10, H10⟩, Hk⟩
    obtain rfl := harg6.eq_unread hf6; obtain rfl := harg10.eq_unread hf10
    sl_exec
    sl_step
    iapply Hk
    isplitl [H6]
    · iexists _; isplitr; · ipureintro; exact harg6.read_unread _
      iexact H6
    iexact H10

end Cert.KernelIdeal.Gen

end
-- ==== Proof.RunA.lean ====
/- The body at the first point of the grid, after the expansion of the weights' scales. -/
module

public import proofs.«01_k».proof.Proof.RunX

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body after its first conditional, at the first point. -/
noncomputable def restProg (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc1 : cond0_1 i) (hc2 : cond0_2 i) (v0 : Elt F .f32) :
    Prog (TpuEff nD τ sig (Elt F) Λ₀ .tc) PUnit := do
  Scf.Loop.for k0_t1_loop (k0_t1_ok i hc1) ⟨⟩ (k0_t1_body i arg2 harg2 arg3 harg3 arg4 harg4 arg5 harg5 arg6 harg6 arg7 harg7 arg8 harg8 arg9 harg9 arg10 harg10 (BitVec.ofNat 32 (i 1).val) hc1)
  let v23 : Vec F S384x2048 .bf16 ← Prog.lift (.load arg4 (Rect.unit (s := S384x2048) ![0, 0] S384x2048.size inb_S384x2048_S384x2048_0_0).toLoadRect (View.loadsAt_vmem h_S384x2048))
  let v25 : Vec F S384x2048 .bf16 ← Prog.lift (.load arg8 (Rect.unit (s := S384x2048) ![0, 0] S384x2048.size inb_S384x2048_S384x2048_0_0).toLoadRect (View.loadsAt_vmem h_S384x2048))
  Prog.lift (.store arg8 (Rect.unit (s := S384x2048) ![0, 0] S384x2048.size inb_S384x2048_S384x2048_0_0) (k0_pay6 v23) Finset.univ (View.stores_vmem h_S384x2048 (harg8.storeExact_slice rfl _ packedbf16_S384x2048_S384x2048_0_0) (fun _ => rfl)) (.inl rfl))
  let v12 : Vec F S384x2048 .bf16 ← Prog.lift (.load arg8 (Rect.unit (s := S384x2048) ![0, 0] S384x2048.size inb_S384x2048_S384x2048_0_0).toLoadRect (View.loadsAt_vmem h_S384x2048))
  let v14 : Vec F S1x2048x512 .bf16 ← Prog.lift (.load arg9 (Rect.unit (s := S14x2048x512) (k0_off8 i) S1x2048x512.size (k0_off8_inb i)).toLoadRect (View.loadsAt_vmem h_S1x2048x512))
  let v17 : Elt F .f32 ← smemLoad arg3 (Rect.unit (s := S1) ![0] S1.size inb_S1_S1_0) numel1_S1 rfl
  let v22 : Vec F S384x512 .bf16 ← Prog.lift (.load arg7 (Rect.unit (s := S384x512) ![0, 0] S384x512.size inb_S384x512_S384x512_0_0).toLoadRect (View.loadsAt_vmem h_S384x512))
  Prog.lift (.store arg7 (Rect.unit (s := S384x512) ![0, 0] S384x512.size inb_S384x512_S384x512_0_0) (k0_pay7 v0 v12 v14 v17) Finset.univ (View.stores_vmem h_S384x512 (harg7.storeExact_slice rfl _ packedbf16_S384x512_S384x512_0_0) (fun _ => rfl)) (.inl rfl))
  pure ⟨⟩

/-- At the first point the body is the load of the global scale, the expansion of the weights' scales and the rest. -/
theorem main_eq_rest (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : cond0_0 i) (hc1 : cond0_1 i) (hc2 : cond0_2 i) :
    cc0_dgrad_main (F := F) i arg2 harg2 arg3 harg3 arg4 harg4 arg5 harg5 arg6 harg6 arg7 harg7 arg8 harg8 arg9 harg9 arg10 harg10
      = (smemLoad arg2 (Rect.unit (s := S1x1) ![0, 0] S1x1.size inb_S1x1_S1x1_0_0) numel1_S1x1 rfl >>= fun v0 =>
          expandProg i arg2 harg2 arg3 harg3 arg4 harg4 arg5 harg5 arg6 harg6 arg7 harg7 arg8 harg8 arg9 harg9 arg10 harg10 >>= fun _ => restProg i arg2 harg2 arg3 harg3 arg4 harg4 arg5 harg5 arg6 harg6 arg7 harg7 arg8 harg8 arg9 harg9 arg10 harg10 hc1 hc2 v0) := by
  simp only [cc0_dgrad_main_eq_skeleton]; unfold cc0_dgrad_main_skel expandProg restProg
  simp only [dif_pos hc0, dif_pos hc1, dif_pos hc2, bind_assoc, pure_bind]
  try rfl

set_option maxHeartbeats 8000000 in
/-- The body at the first point of the grid, after the expansion of the weights' scales. What the stores leave in each written buffer, as pieces, the last first, with the proof that the program
    runs from whole buffers at the given contents to the same buffers with these pieces written. -/
noncomputable def runA (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc1 : cond0_1 i) (hc2 : cond0_2 i) (v0 : Elt F .f32)
    (x0 : Vec F S1x1 .f32) (x1 : Vec F S1 .f32) (x2 : Vec F S384x2048 .bf16) (x3 : Vec F S2048x256 .i8) (x4 : Vec F S128x448 .fp8e4m3) (x5 : Vec F S384x512 .bf16) (xs0 : Vec F S384x2048 .bf16) (xs1 : Vec F S14x2048x512 .bf16) (xs2 : Vec F S56x128x128 .f32) :
    { W : List (View.Piece (Elt F) S384x512 .bf16) × List (View.Piece (Elt F) S384x2048 .bf16) × List (View.Piece (Elt F) S14x2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread x5) W.1) ∗ (arg8.view.loc (c : Thread nD τ) ↦[arg8.view.set]{fullShare} arg8.view.writes (Elt F) (harg8.unread xs0) W.2.1) ∗ (arg9.view.loc (c : Thread nD τ) ↦[arg9.view.set]{fullShare} arg9.view.writes (Elt F) (harg9.unread xs1) W.2.2) ∗ owns (c : Thread nD τ) arg10 fullShare xs2) -∗ K ⟨⟩))
          ⊢ wp frame (wpE (defs₀ (F := F)) Variants.none c none) E (restProg i arg2 harg2 arg3 harg3 arg4 harg4 arg5 harg5 arg6 harg6 arg7 harg7 arg8 harg8 arg9 harg9 arg10 harg10 hc1 hc2 v0) K } := by
  refine ⟨⟨?_, ?_, ?_⟩, fun E K => ?run⟩
  case run =>
    unfold restProg
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexact H8
    isplitl [H9]
    · iexact H9
    iexists _; isplitr; · ipureintro; exact harg10.read_unread _
    iexact H10

end Cert.KernelIdeal.Gen

end
-- ==== Proof.RunB.lean ====
/- The body at the later points of the first row of the grid. -/
module

public import proofs.«01_k».proof.Proof.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the later points of the first row of the grid. What the stores leave in each written buffer, as pieces, the last first, with the proof that the program
    runs from whole buffers at the given contents to the same buffers with these pieces written. -/
noncomputable def runB (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : cond0_1 i) (hc2 : ¬cond0_2 i)
    (x0 : Vec F S1x1 .f32) (x1 : Vec F S1 .f32) (x2 : Vec F S384x2048 .bf16) (x3 : Vec F S2048x256 .i8) (x4 : Vec F S128x448 .fp8e4m3) (x5 : Vec F S384x512 .bf16) (xs0 : Vec F S384x2048 .bf16) (xs1 : Vec F S14x2048x512 .bf16) (xs2 : Vec F S56x128x128 .f32) :
    { W : List (View.Piece (Elt F) S384x512 .bf16) × List (View.Piece (Elt F) S14x2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread x5) W.1) ∗ owns (c : Thread nD τ) arg8 fullShare xs0 ∗ (arg9.view.loc (c : Thread nD τ) ↦[arg9.view.set]{fullShare} arg9.view.writes (Elt F) (harg9.unread xs1) W.2) ∗ owns (c : Thread nD τ) arg10 fullShare xs2) -∗ K ⟨⟩))
          ⊢ wp frame (wpE (defs₀ (F := F)) Variants.none c none) E (cc0_dgrad_main i arg2 harg2 arg3 harg3 arg4 harg4 arg5 harg5 arg6 harg6 arg7 harg7 arg8 harg8 arg9 harg9 arg10 harg10) K } := by
  refine ⟨⟨?_, ?_⟩, fun E K => ?run⟩
  case run =>
    simp only [cc0_dgrad_main_eq_skeleton]; unfold cc0_dgrad_main_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexists _; isplitr; · ipureintro; exact harg8.read_unread _
      iexact H8
    isplitl [H9]
    · iexact H9
    iexists _; isplitr; · ipureintro; exact harg10.read_unread _
    iexact H10

end Cert.KernelIdeal.Gen

end
-- ==== Proof.RunC.lean ====
/- The body at the first point of a later row of the grid. -/
module

public import proofs.«01_k».proof.Proof.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of a later row of the grid. What the stores leave in each written buffer, as pieces, the last first, with the proof that the program
    runs from whole buffers at the given contents to the same buffers with these pieces written. -/
noncomputable def runC (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : cond0_2 i)
    (x0 : Vec F S1x1 .f32) (x1 : Vec F S1 .f32) (x2 : Vec F S384x2048 .bf16) (x3 : Vec F S2048x256 .i8) (x4 : Vec F S128x448 .fp8e4m3) (x5 : Vec F S384x512 .bf16) (xs0 : Vec F S384x2048 .bf16) (xs1 : Vec F S14x2048x512 .bf16) (xs2 : Vec F S56x128x128 .f32) :
    { W : List (View.Piece (Elt F) S384x512 .bf16) × List (View.Piece (Elt F) S384x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread x5) W.1) ∗ (arg8.view.loc (c : Thread nD τ) ↦[arg8.view.set]{fullShare} arg8.view.writes (Elt F) (harg8.unread xs0) W.2) ∗ owns (c : Thread nD τ) arg9 fullShare xs1 ∗ owns (c : Thread nD τ) arg10 fullShare xs2) -∗ K ⟨⟩))
          ⊢ wp frame (wpE (defs₀ (F := F)) Variants.none c none) E (cc0_dgrad_main i arg2 harg2 arg3 harg3 arg4 harg4 arg5 harg5 arg6 harg6 arg7 harg7 arg8 harg8 arg9 harg9 arg10 harg10) K } := by
  refine ⟨⟨?_, ?_⟩, fun E K => ?run⟩
  case run =>
    simp only [cc0_dgrad_main_eq_skeleton]; unfold cc0_dgrad_main_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexact H8
    isplitl [H9]
    · iexists _; isplitr; · ipureintro; exact harg9.read_unread _
      iexact H9
    iexists _; isplitr; · ipureintro; exact harg10.read_unread _
    iexact H10

end Cert.KernelIdeal.Gen

end
-- ==== Proof.RunD.lean ====
/- The body at the later points of a later row of the grid. -/
module

public import proofs.«01_k».proof.Proof.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the later points of a later row of the grid. What the stores leave in each written buffer, as pieces, the last first, with the proof that the program
    runs from whole buffers at the given contents to the same buffers with these pieces written. -/
noncomputable def runD (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : ¬cond0_2 i)
    (x0 : Vec F S1x1 .f32) (x1 : Vec F S1 .f32) (x2 : Vec F S384x2048 .bf16) (x3 : Vec F S2048x256 .i8) (x4 : Vec F S128x448 .fp8e4m3) (x5 : Vec F S384x512 .bf16) (xs0 : Vec F S384x2048 .bf16) (xs1 : Vec F S14x2048x512 .bf16) (xs2 : Vec F S56x128x128 .f32) :
    { W : List (View.Piece (Elt F) S384x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread x5) W) ∗ owns (c : Thread nD τ) arg8 fullShare xs0 ∗ owns (c : Thread nD τ) arg9 fullShare xs1 ∗ owns (c : Thread nD τ) arg10 fullShare xs2) -∗ K ⟨⟩))
          ⊢ wp frame (wpE (defs₀ (F := F)) Variants.none c none) E (cc0_dgrad_main i arg2 harg2 arg3 harg3 arg4 harg4 arg5 harg5 arg6 harg6 arg7 harg7 arg8 harg8 arg9 harg9 arg10 harg10) K } := by
  refine ⟨?_, fun E K => ?run⟩
  case run =>
    simp only [cc0_dgrad_main_eq_skeleton]; unfold cc0_dgrad_main_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexists _; isplitr; · ipureintro; exact harg8.read_unread _
      iexact H8
    isplitl [H9]
    · iexists _; isplitr; · ipureintro; exact harg9.read_unread _
      iexact H9
    iexists _; isplitr; · ipureintro; exact harg10.read_unread _
    iexact H10

end Cert.KernelIdeal.Gen

end
-- ==== Proof.Expand.lean ====
/- The values of the expanded scales: each tile of the scratch holds, along its lanes, sixteen copies of each of eight
   block scales, times 64. -/
module

public import proofs.«01_k».proof.Proof.RunX
public import Idealize.ShloMosaic.Lib.Pointwise
public import Idealize.ShloMosaic.Lib.WholeRead

@[expose] public section

set_option maxRecDepth 16384

noncomputable section

namespace Cert.KernelIdeal.Gen

open Idealize.ShloMosaic Idealize.ShloMosaic.Pointwise Idealize.ShloMosaic.TcCoe
open Idealize.SL Idealize.SL.Sem

variable {F : FTy → Type} [FloatOps F]

/-- The lane indices of a tile that begins with the block `b` of its 128 blocks: sixteen lanes for each block. -/
def expIdx (b : ℕ) : IVec S8x128 32 :=
  let v : IVec S8x128 32 := addi (shrsi (iota .tc S8x128 32 [1] iota_S8x128_d1_w32) (broadcast S8x128 4#32)) (broadcast S8x128 (BitVec.ofNat 32 b))
  shapeCast S8x128 (shapeCast S8x128x1 (select (cmpi .slt v (broadcast S8x128 0#32)) (addi v (broadcast S8x128 128#32)) v) shapeCasts_S8x128_S8x128x1) shapeCasts_S8x128x1_S8x128

/-- A tile: 32 rows of 128 block scales, each of eight of them repeated sixteen times. -/
def expTile (b : ℕ) (s : FVec F S32x128 .f32) : FVec F S1x32x128 .f32 :=
  shapeCast S1x32x128 (concatenate S32x128 0
    [⟨S8x128, dynamicGather 1 (extractStridedSlice S8x128 ![0, 0] s slices_S32x128_o0_0_S8x128) (expIdx b)⟩,
     ⟨S8x128, dynamicGather 1 (extractStridedSlice S8x128 ![8, 0] s slices_S32x128_o8_0_S8x128) (expIdx b)⟩,
     ⟨S8x128, dynamicGather 1 (extractStridedSlice S8x128 ![16, 0] s slices_S32x128_o16_0_S8x128) (expIdx b)⟩,
     ⟨S8x128, dynamicGather 1 (extractStridedSlice S8x128 ![24, 0] s slices_S32x128_o24_0_S8x128) (expIdx b)⟩]
    concatenates_S8x128_S8x128_S8x128_S8x128_S32x128_d0) shapeCasts_S32x128_S1x32x128

theorem expIdx_word : ∀ (l : Fin 128) (b : Fin 16),
    (Scalar.select (IntOp.cmpi .slt (IntOp.addi (IntOp.shrsi .vector (BitVec.ofNat 32 l.val) 4#32) (BitVec.ofNat 32 (8 * b.val))) 0#32)
      (IntOp.addi (IntOp.addi (IntOp.shrsi .vector (BitVec.ofNat 32 l.val) 4#32) (BitVec.ofNat 32 (8 * b.val))) 128#32)
      (IntOp.addi (IntOp.shrsi .vector (BitVec.ofNat 32 l.val) 4#32) (BitVec.ofNat 32 (8 * b.val)))).toNat = l.val / 16 + 8 * b.val := by
  decide +kernel

theorem expIdx_apply (b : Fin 16) (r : Fin 8) (l : Fin 128) : ((expIdx (8 * b.val)) (ix2 r l)).toNat = l.val / 16 + 8 * b.val := by
  rw [← expIdx_word l b]
  pointwise [expIdx]

/-- A tile at an index: the scale of the block the lane belongs to. -/
theorem expTile_apply (b : Fin 16) (s : FVec F S32x128 .f32) (r : Fin 32) (l : Fin 128) :
    expTile (8 * b.val) s (ix3 0 r l) = s (ix2 r ⟨l.val / 16 + 8 * b.val, by omega⟩) := by
  have hm : (l.val / 16 + 8 * b.val) % 128 = l.val / 16 + 8 * b.val := Nat.mod_eq_of_lt (by omega)
  pointwise [expTile]
  simp only [expIdx_apply, hm]
  split
  · rfl
  · split
    · congr 2; exact Fin.ext (by simp only []; omega)
    · split
      · congr 2; exact Fin.ext (by simp only []; omega)
      · congr 2; exact Fin.ext (by simp only []; omega)

/-- The scales a tile of 32 rows is made from: 128 columns of them, times 64; of the last only 64 columns are there. -/
def expSrc (arg6 : Memref sig .tc .vmem S128x448 .fp8e4m3) (harg6 : arg6.IsWhole) (x5 : Vec F S128x448 .fp8e4m3) (rb q : Fin 4) : FVec F S32x128 .f32 :=
  if h : q.val < 3 then
    k0_pay8 (View.readAt (Elt F) arg6.view (Rect.unit (s := S128x448) ![32 * rb.val, 128 * q.val] S32x128.size (by intro a; fin_cases a <;> simp [S32x128, S128x448] <;> omega)).toLoadRect (harg6.unread x5))
  else
    k0_pay11 (View.readAt (Elt F) arg6.view (Rect.unit (s := S128x448) ![32 * rb.val, 384] S32x64.size (by intro a; fin_cases a <;> simp [S32x64, S128x448] <;> omega)).toLoadRect (harg6.unread x5))

/-- The stored tile of 32 rows `rb` at the lane tile `j`. -/
def expPiece (arg6 : Memref sig .tc .vmem S128x448 .fp8e4m3) (harg6 : arg6.IsWhole) (x5 : Vec F S128x448 .fp8e4m3) (q : Fin 4 × Fin 56) : View.Piece (Elt F) S56x128x128 .f32 :=
  ⟨Rect.unit (s := S56x128x128) ![q.2.val, 32 * q.1.val, 0] S1x32x128.size (by intro a; fin_cases a <;> simp [S1x32x128, S56x128x128] <;> omega),
    expTile (8 * (q.2.val % 16)) (expSrc arg6 harg6 x5 q.1 ⟨q.2.val / 16, by omega⟩)⟩

/-- The tiles in the order they are stored, last first. -/
def expList : List (Fin 4 × Fin 56) :=
  [(3, 55), (3, 54), (3, 53), (3, 52), (3, 51), (3, 50), (3, 49), (3, 48), (3, 47), (3, 46), (3, 45), (3, 44), (3, 43), (3, 42), (3, 41), (3, 40), (3, 39), (3, 38), (3, 37), (3, 36), (3, 35), (3, 34), (3, 33), (3, 32), (3, 31), (3, 30), (3, 29), (3, 28), (3, 27), (3, 26), (3, 25), (3, 24), (3, 23), (3, 22), (3, 21), (3, 20), (3, 19), (3, 18), (3, 17), (3, 16), (3, 15), (3, 14), (3, 13), (3, 12), (3, 11), (3, 10), (3, 9), (3, 8), (3, 7), (3, 6), (3, 5), (3, 4), (3, 3), (3, 2), (3, 1), (3, 0), (2, 55), (2, 54), (2, 53), (2, 52), (2, 51), (2, 50), (2, 49), (2, 48), (2, 47), (2, 46), (2, 45), (2, 44), (2, 43), (2, 42), (2, 41), (2, 40), (2, 39), (2, 38), (2, 37), (2, 36), (2, 35), (2, 34), (2, 33), (2, 32), (2, 31), (2, 30), (2, 29), (2, 28), (2, 27), (2, 26), (2, 25), (2, 24), (2, 23), (2, 22), (2, 21), (2, 20), (2, 19), (2, 18), (2, 17), (2, 16), (2, 15), (2, 14), (2, 13), (2, 12), (2, 11), (2, 10), (2, 9), (2, 8), (2, 7), (2, 6), (2, 5), (2, 4), (2, 3), (2, 2), (2, 1), (2, 0), (1, 55), (1, 54), (1, 53), (1, 52), (1, 51), (1, 50), (1, 49), (1, 48), (1, 47), (1, 46), (1, 45), (1, 44), (1, 43), (1, 42), (1, 41), (1, 40), (1, 39), (1, 38), (1, 37), (1, 36), (1, 35), (1, 34), (1, 33), (1, 32), (1, 31), (1, 30), (1, 29), (1, 28), (1, 27), (1, 26), (1, 25), (1, 24), (1, 23), (1, 22), (1, 21), (1, 20), (1, 19), (1, 18), (1, 17), (1, 16), (1, 15), (1, 14), (1, 13), (1, 12), (1, 11), (1, 10), (1, 9), (1, 8), (1, 7), (1, 6), (1, 5), (1, 4), (1, 3), (1, 2), (1, 1), (1, 0), (0, 55), (0, 54), (0, 53), (0, 52), (0, 51), (0, 50), (0, 49), (0, 48), (0, 47), (0, 46), (0, 45), (0, 44), (0, 43), (0, 42), (0, 41), (0, 40), (0, 39), (0, 38), (0, 37), (0, 36), (0, 35), (0, 34), (0, 33), (0, 32), (0, 31), (0, 30), (0, 29), (0, 28), (0, 27), (0, 26), (0, 25), (0, 24), (0, 23), (0, 22), (0, 21), (0, 20), (0, 19), (0, 18), (0, 17), (0, 16), (0, 15), (0, 14), (0, 13), (0, 12), (0, 11), (0, 10), (0, 9), (0, 8), (0, 7), (0, 6), (0, 5), (0, 4), (0, 3), (0, 2), (0, 1), (0, 0)]

theorem mem_expList : ∀ (rb : Fin 4) (j : Fin 56), (rb, j) ∈ expList := by decide +kernel

set_option maxHeartbeats 4000000 in
/-- The pieces that the conditional leaves are these tiles. -/
theorem runX_eq (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole)
    (x5 : Vec F S128x448 .fp8e4m3) (xs2 : Vec F S56x128x128 .f32) :
    (runX c i arg2 harg2 arg3 harg3 arg4 harg4 arg5 harg5 arg6 harg6 arg7 harg7 arg8 harg8 arg9 harg9 arg10 harg10 x5 xs2).1 = expList.map (expPiece arg6 harg6 x5) := by
  unfold runX
  dsimp only
  rfl

end Cert.KernelIdeal.Gen

end
-- ==== Proof.Codes.lean ====
/- The value of a four-bit weight code, as the reference reads it and as the kernel reads it. -/
module

public import proofs.«01_k».proof.Proof.Gen.ReferenceIdeal.Read
public import Idealize.ShloMosaic.Lib.Pointwise
public import Idealize.ShloMosaic.Lib.BitcastFour

@[expose] public section

noncomputable section

namespace Cert.Codes

open Idealize.ShloMosaic Idealize.ShloMosaic.Pointwise

/-- The reference's value of a four-bit code held in a word: sign, two bits of exponent, one of mantissa. -/
def refCode (n : BitVec 32) : EReal :=
  let e := IntOp.andi (IntOp.shrsi .host n 1#32) 3#32
  let m : EReal := FloatOps.sitofp (F := Ideal) .f32 (IntOp.andi n 1#32)
  let mag : EReal := if e = 0#32 then Ideal.ofBits .f32 0x3F000000#32 * m
    else (if e = 1#32 then 1 else if e = 2#32 then Ideal.ofBits .f32 0x40000000#32 else Ideal.ofBits .f32 0x40800000#32) * (1 + Ideal.ofBits .f32 0x3F000000#32 * m)
  if IntOp.andi (IntOp.shrsi .host n 3#32) 1#32 = 1#32 then -mag else mag

/-- The word the reference takes a code from: the low half of a byte for an even column, the high half for an odd one. -/
def refWord (B : BitVec 8) (p : Fin 2) : BitVec 32 :=
  if p.val < 1 then IntOp.andi (B.setWidth 32) 15#32 else IntOp.shrsi .host (B.setWidth 32) 4#32

theorem cmpi_eq_one (a b : BitVec 32) : (IntOp.cmpi .eq a b = 1) = (a = b) := by
  simp only [IntOp.cmpi]
  by_cases h : a = b
  · simp [h]
  · simp [h, beq_eq_false_iff_ne.mpr h]

open Cert.ReferenceIdeal Cert.ReferenceIdeal.Read Cert.ReferenceIdeal.Gen in
/-- The decoded weight of the reference at an index. -/
theorem ref_code (x1 : IVec S2048x3584 8) (a : Fin 2048) (b : Fin 3584) (p : Fin 2) :
    val_main_v43 (F := Ideal) x1 (ix3 a b p) = refCode (refWord (x1 (ix2 a b)) p) := by
  have h8 : val_main_v8 (F := Ideal) x1 (ix3 a b p) = refWord (x1 (ix2 a b)) p := by
    pointwise [val_main_v8, val_main_v6, val_main_v7, val_main_v3, val_main_v5, val_main_v1, val_main_v2, val_main_v4, val_main_c, val_main_c_0, refWord]
    by_cases h : p.val < 1 <;> simp only [h, dite_true, dite_false, if_true, if_false]
  simp only [val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, h8, val_main_c_1_apply, val_main_c_2_apply, val_main_c_3_apply, val_main_c_4_apply, val_main_c_5_apply, val_main_c_6_apply, val_main_c_7_apply, val_main_c_10_apply, val_main_c_14_apply, val_main_cst_apply, val_main_cst_8_apply, val_main_cst_9_apply, val_main_cst_11_apply, val_main_cst_12_apply, val_main_cst_13_apply]
  generalize refWord (x1 (ix2 a b)) p = n
  pointwise [refCode, Scalar.select]
  simp only [cmpi_eq_one]

/-- The byte the kernel makes of a code: the bits of the code put at the places of sign, exponent and mantissa of an eight-bit float. -/
def kerByte (B : BitVec 8) (p : Fin 2) : BitVec 8 :=
  let c := if p.val < 1 then B <<< 4 else B
  (c &&& 0x80#8) ||| ((c &&& 0x70#8) >>> 2)

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem sixtyfour : Ideal.ofBits .f32 0x42800000#32 = ((64 : ℝ) : EReal) := by
  simp [Ideal.ofBits, Ideal.ieee, -EReal.coe_mul]; norm_num

theorem word_nib (B : BitVec 8) (p : Fin 2) : ∃ n : Fin 16, refWord B p = BitVec.ofNat 32 n.val ∧ kerByte B p = kerByte (BitVec.ofNat 8 (n.val + 16 * n.val)) 0 := by
  have h : ∀ (B : Fin 256) (p : Fin 2), refWord (BitVec.ofFin B) p = BitVec.ofNat 32 (if p.val < 1 then B.val % 16 else B.val / 16)
      ∧ kerByte (BitVec.ofFin B) p = kerByte (BitVec.ofNat 8 ((if p.val < 1 then B.val % 16 else B.val / 16) + 16 * (if p.val < 1 then B.val % 16 else B.val / 16))) 0 := by
    decide +kernel
  refine ⟨⟨if p.val < 1 then B.toFin.val % 16 else B.toFin.val / 16, by have := B.toFin.isLt; split <;> omega⟩, h B.toFin p⟩

theorem nib_val (n : Fin 16) : Ideal.ofBits .fp8e4m3 (kerByte (BitVec.ofNat 8 (n.val + 16 * n.val)) 0) * ((64 : ℝ) : EReal) = refCode (BitVec.ofNat 32 n.val) := by
  have one : (1 : EReal) = ((1 : ℝ) : EReal) := rfl
  have s0 : FloatOps.sitofp (F := Ideal) .f32 0#32 = ((0 : ℝ) : EReal) := by
    show (((0#32 : BitVec 32).toInt : ℝ) : EReal) = _; simp
  have s1 : FloatOps.sitofp (F := Ideal) .f32 1#32 = ((1 : ℝ) : EReal) := by
    show (((1#32 : BitVec 32).toInt : ℝ) : EReal) = _; simp
  rw [show Ideal.ofBits .fp8e4m3 (kerByte (BitVec.ofNat 8 (n.val + 16 * n.val)) 0) = Ideal.e4m3fn (kerByte (BitVec.ofNat 8 (n.val + 16 * n.val)) 0) from rfl]
  fin_cases n <;> simp [refCode, kerByte, Ideal.e4m3fn, IntOp.andi, IntOp.shrsi, half, two, four, one, s0, s1, -EReal.coe_mul, -EReal.coe_one, -EReal.coe_neg, ← EReal.coe_mul, ← EReal.coe_add, ← EReal.coe_neg]
  all_goals norm_num

/-- The kernel's byte, scaled by 64, is the reference's value of the code. -/
theorem code_val (B : BitVec 8) (p : Fin 2) : Ideal.ofBits .fp8e4m3 (kerByte B p) * ((64 : ℝ) : EReal) = refCode (refWord B p) := by
  obtain ⟨n, h1, h2⟩ := word_nib B p
  rw [h1, h2, nib_val]

end Cert.Codes

end
-- ==== Proof.Decode.lean ====
/- The values of a decoded tile of weights: 32 rows of 128 columns, from the packed codes and two rows of scales. -/
module

public import proofs.«01_k».proof.Proof.RunBase
public import proofs.«01_k».proof.Proof.Codes

@[expose] public section

set_option maxRecDepth 16384

noncomputable section

namespace Cert.KernelIdeal.Gen

open Idealize.ShloMosaic Idealize.ShloMosaic.Pointwise Idealize.ShloMosaic.TcCoe
open Idealize.SL Idealize.SL.Sem
open Cert.Codes

variable {F : FTy → Type} [FloatOps F]

/-- The lane indices of the codes of a tile: two columns share a byte; the second tile of a register of codes begins at lane 64. -/
def decLanes (h : Fin 2) : IVec S8x128 32 := if h.val < 1 then k0_pay3 else k0_pay4

/-- A decoded tile, from its codes and the scales of its upper and lower sixteen rows. -/
def decTile (h : Fin 2) (x : Vec F S32x128 .i8) (r0 r1 : Vec F S1x1x128 .f32) : FVec F S1x32x128 .bf16 :=
  k0_pay1018 (k0_pay1015 k0_pay2 (decLanes h) x) (k0_pay1016 r0) (k0_pay1017 r1)

/-- What the kernel makes of a word of four packed bytes. -/
def decWord (W sh : BitVec 32) : BitVec 32 :=
  IntOp.ori (IntOp.andi (IntOp.shli .vector W sh) 2155905152#32) (IntOp.shrui .vector (IntOp.andi (IntOp.shli .vector W sh) 1886417008#32) 2#32)

/-- The shift of a column: the code of an even one is the low half of its byte and moves up. -/
def decShift (p : Fin 2) : BitVec 32 := if p.val < 1 then 4#32 else 0#32

/-- A byte of the decoded word depends on the same byte of the packed word. -/
theorem decWord_byte (W : BitVec 32) (B : BitVec 8) (p : Fin 2) (b : Fin 4) (hB : ∀ q : Fin 8, W.getLsbD (8 * b.val + q.val) = B.getLsbD q.val) :
    ∀ q : Fin 8, (decWord W (decShift p)).getLsbD (8 * b.val + q.val) = (kerByte B p).getLsbD q.val := by
  have h0 := hB 0; have h1 := hB 1; have h2 := hB 2; have h3 := hB 3; have h4 := hB 4; have h5 := hB 5; have h6 := hB 6; have h7 := hB 7
  intro q
  have m1 : ∀ i : Fin 32, (2155905152#32 : BitVec 32).getLsbD i.val = decide (i.val % 8 = 7) := by decide
  have m2 : ∀ i : Fin 32, (1886417008#32 : BitVec 32).getLsbD i.val = decide (4 ≤ i.val % 8 ∧ i.val % 8 < 7) := by decide
  have n1 : ∀ i : Fin 8, (0x80#8 : BitVec 8).getLsbD i.val = decide (i.val = 7) := by decide
  have n2 : ∀ i : Fin 8, (0x70#8 : BitVec 8).getLsbD i.val = decide (4 ≤ i.val ∧ i.val < 7) := by decide
  fin_cases b <;> fin_cases p <;> fin_cases q <;>
    simp_all [decWord, decShift, kerByte, IntOp.shli, IntOp.shrui, IntOp.andi, IntOp.ori, BitVec.getLsbD_shiftLeft, BitVec.getLsbD_ushiftRight]

theorem pay2_word : ∀ l : Fin 128, IntOp.shli .vector (IntOp.subi 1#32 (IntOp.andi (BitVec.ofNat 32 l.val) 1#32)) 2#32 = decShift ⟨l.val % 2, by omega⟩ := by
  decide +kernel

theorem pay2_apply (r : Fin 8) (l : Fin 128) : k0_pay2 (ix2 r l) = decShift ⟨l.val % 2, by omega⟩ := by
  rw [← pay2_word l]
  pointwise [k0_pay2]

theorem lanes_word : ∀ (h : Fin 2) (l : Fin 128),
    (Scalar.select (IntOp.cmpi .slt (IntOp.addi (IntOp.shrsi .vector (BitVec.ofNat 32 l.val) 1#32) (BitVec.ofNat 32 (64 * h.val))) 0#32)
      (IntOp.addi (IntOp.addi (IntOp.shrsi .vector (BitVec.ofNat 32 l.val) 1#32) (BitVec.ofNat 32 (64 * h.val))) 128#32)
      (IntOp.addi (IntOp.shrsi .vector (BitVec.ofNat 32 l.val) 1#32) (BitVec.ofNat 32 (64 * h.val)))).toNat = l.val / 2 + 64 * h.val := by
  decide +kernel

theorem decLanes_apply (h : Fin 2) (r : Fin 8) (l : Fin 128) :
    decLanes h (ix2 r l) = IntOp.addi (IntOp.shrsi .vector (BitVec.ofNat 32 l.val) 1#32) (BitVec.ofNat 32 (64 * h.val)) := by
  fin_cases h
  · show k0_pay3 (ix2 r l) = _
    pointwise [k0_pay3]
  · show k0_pay4 (ix2 r l) = _
    pointwise [k0_pay4]

/-- A decoded element before scaling: the kernel's byte of its code, read as an eight-bit float. -/
theorem dec_apply (h : Fin 2) (x : Vec Ideal S32x128 .i8) (r : Fin 32) (l : Fin 128) :
    k0_pay1015 (F := Ideal) k0_pay2 (decLanes h) x (ix2 r l)
      = Ideal.ofBits .fp8e4m3 (kerByte (x (ix2 r ⟨l.val / 2 + 64 * h.val, by omega⟩)) ⟨l.val % 2, by omega⟩) := by
  pointwise [k0_pay1015, k0_pay1014]
  congr 1
  apply BitVec.eq_of_getLsbD_eq
  intro q hq
  rw [bitcast_getLsbD _ _ _ q hq (by decide)]
  have hs : ∀ hp, Shape.Bitcasts.srcIdx bitcasts_S8x128_w32_S32x128_w8 (ix2 r l) ((S32x128.row (ix2 r l) * 8 + q) / 32) hp
      = (ix2 (⟨r.val / 4, by omega⟩ : Fin 8) l : S8x128.Idx) := by
    intro hp
    funext c
    match c with
    | ⟨0, _⟩ =>
      refine Fin.ext ((Shape.Bitcasts.srcIdx_row _ _ _ _ ⟨0, Nat.zero_lt_two⟩ rfl).trans ?_)
      show (r.val * 8 + q) / 32 = r.val / 4
      omega
    | ⟨1, _⟩ => exact Fin.ext (Shape.Bitcasts.srcIdx_other _ _ _ _ ⟨1, Nat.one_lt_two⟩ (by show ¬ 1 + 2 = 2; omega))
  rw [hs]
  have hm : (S32x128.row (ix2 r l) * 8 + q) % 32 = 8 * (r.val % 4) + q := by
    show (r.val * 8 + q) % 32 = _
    omega
  rw [hm]
  have key := decWord_byte (bitcast S8x128 32 x bitcasts_S32x128_w8_S8x128_w32 (ix2 ⟨r.val / 4, by omega⟩ ⟨l.val / 2 + 64 * h.val, by omega⟩))
    (x (ix2 r ⟨l.val / 2 + 64 * h.val, by omega⟩)) ⟨l.val % 2, by omega⟩ ⟨r.val % 4, by omega⟩ (fun q => by
      rw [show (8 * (⟨r.val % 4, by omega⟩ : Fin 4).val + q.val) = 8 * (r.val % 4) + q.val from rfl]
      refine (bitcast_8_32_getLsbD_ix2 x bitcasts_S32x128_w8_S8x128_w32 ⟨r.val / 4, by omega⟩ _ (8 * (r.val % 4) + q.val) (by omega) r (by show r.val = 4 * (r.val / 4) + _; omega)).trans ?_
      rw [show (8 * (r.val % 4) + q.val) % 8 = q.val by omega]; rfl) ⟨q, hq⟩
  refine Eq.trans ?_ key
  have hg : dynamicGather 1 (bitcast S8x128 32 x bitcasts_S32x128_w8_S8x128_w32)
                (select (cmpi CmpIPredicate.slt (decLanes h) (broadcast S8x128 0#32))
                  (addi (decLanes h) (broadcast S8x128 128#32)) (decLanes h)) (ix2 (⟨r.val / 4, by omega⟩ : Fin 8) l)
      = bitcast S8x128 32 x bitcasts_S32x128_w8_S8x128_w32 (ix2 ⟨r.val / 4, by omega⟩ ⟨l.val / 2 + 64 * h.val, by omega⟩) := by
    have hw := lanes_word h l
    pointwise [decLanes_apply]
    congr 1
    funext c
    match c with
    | ⟨0, _⟩ => rfl
    | ⟨1, _⟩ => exact Fin.ext ((congrArg (· % 128) hw).trans (Nat.mod_eq_of_lt (by omega)))
  show (decWord (dynamicGather 1 _ _ (ix2 (⟨r.val / 4, by omega⟩ : Fin 8) l)) (k0_pay2 (ix2 (⟨r.val / 4, by omega⟩ : Fin 8) l))).getLsbD _ = _
  rw [hg, pay2_apply]

theorem decTile_apply (h : Fin 2) (x : Vec Ideal S32x128 .i8) (r0 r1 : Vec Ideal S1x1x128 .f32) (r : Fin 32) (l : Fin 128) :
    decTile h x r0 r1 (ix3 0 r l)
      = Ideal.ofBits .fp8e4m3 (kerByte (x (ix2 r ⟨l.val / 2 + 64 * h.val, by omega⟩)) ⟨l.val % 2, by omega⟩)
        * (if r.val < 16 then r0 (ix3 0 0 l) else r1 (ix3 0 0 l)) := by
  rw [← dec_apply]
  unfold decTile
  generalize k0_pay1015 (F := Ideal) k0_pay2 (decLanes h) x = y
  pointwise [k0_pay1018, k0_pay1016, k0_pay1017]
  split <;> rfl

end Cert.KernelIdeal.Gen

end
-- ==== Proof.Slab.lean ====
/- The pieces of the decoded weights: each point of the first row of the grid fills the slab of its column tile. -/
module

public import proofs.«01_k».proof.Proof.Decode

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.Codes
open Idealize.ShloMosaic.Pipeline (Dat Cfg Window BodyObligation cellOf)

variable {F : FTy → Type} [FloatOps F]

local notation "𝕄" => MT nD τ sig Unit (Elt F) ℕ (UR sig nD τ) ℕ

theorem trips1 : k0_t1_loop.trips = 64 := by decide

theorem iv1_toNat (k : Fin k0_t1_loop.trips) : (Scalar.indexCast (Scalar.muli (Scf.iv 0#32 1#32 k.val) 32#32) : Index).toNat = 32 * k.val := by
  have h : ∀ k : Fin 64, (Scalar.indexCast (Scalar.muli (Scf.iv 0#32 1#32 k.val) 32#32) : Index).toNat = 32 * k.val := by decide
  exact h ⟨k.val, Nat.lt_of_lt_of_eq k.isLt trips1⟩

theorem word_i1 (i : grid0.Coords) : (Scalar.indexCast (BitVec.ofNat 32 (i 1).val) : Index).toNat = (i 1).val := by
  have h : ∀ k : Fin 14, (Scalar.indexCast (BitVec.ofNat 32 k.val) : Index).toNat = k.val := by decide
  exact h ⟨(i 1).val, (i 1).isLt⟩

theorem off3_eq (i : grid0.Coords) (k : Fin k0_t1_loop.trips) : k0_off3 i k = ![(i 1).val, 32 * k.val, 0] := by
  unfold k0_off3; simp only [iv1_toNat k, word_i1 i]

theorem off4_eq (i : grid0.Coords) (k : Fin k0_t1_loop.trips) : k0_off4 i k = ![(i 1).val, 32 * k.val, 128] := by
  unfold k0_off4; simp only [iv1_toNat k, word_i1 i]

theorem off6_eq (i : grid0.Coords) (k : Fin k0_t1_loop.trips) : k0_off6 i k = ![(i 1).val, 32 * k.val, 256] := by
  unfold k0_off6; simp only [iv1_toNat k, word_i1 i]

theorem off7_eq (i : grid0.Coords) (k : Fin k0_t1_loop.trips) : k0_off7 i k = ![(i 1).val, 32 * k.val, 384] := by
  unfold k0_off7; simp only [iv1_toNat k, word_i1 i]

theorem off8_eq (i : grid0.Coords) : k0_off8 i = ![(i 1).val, 0, 0] := by
  unfold k0_off8; simp only [word_i1 i]

set_option maxHeartbeats 1000000 in
/-- A trip of the decoding of the weights stores four pieces: 32 rows of each of the four lane tiles. -/
theorem trip1_eq (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (v1 : BitVec 32) (h2 : k0_cond2 i = 1#1) (X5 : BufTy.Contents (Elt F) arg5.view.ty) (X10 : BufTy.Contents (Elt F) arg10.view.ty) (k : Fin k0_t1_loop.trips) :
    tripL_k0_t1 (F := F) Variants.none c none i arg2 harg2 arg3 harg3 arg4 harg4 arg5 harg5 arg6 harg6 arg7 harg7 arg8 harg8 arg9 harg9 arg10 harg10 v1 h2 X5 X10 k
      = [⟨Rect.unit (s := S14x2048x512) (k0_off7 i k) S1x32x128.size (k0_off7_inb i k h2),
          decTile 1 (View.readAt (Elt F) arg5.view (Rect.unit (s := S2048x256) (k0_off5 k) S32x128.size (k0_off5_inb i k h2)).toLoadRect X5)
            (View.readAt (Elt F) arg10.view (Rect.unit (s := S56x128x128) (k0_off2 i k 3#32 0#32) S1x1x128.size (k0_off2_inb i k h2 3 0)).toLoadRect X10)
            (View.readAt (Elt F) arg10.view (Rect.unit (s := S56x128x128) (k0_off2 i k 3#32 1#32) S1x1x128.size (k0_off2_inb i k h2 3 1)).toLoadRect X10)⟩,
         ⟨Rect.unit (s := S14x2048x512) (k0_off6 i k) S1x32x128.size (k0_off6_inb i k h2),
          decTile 0 (View.readAt (Elt F) arg5.view (Rect.unit (s := S2048x256) (k0_off5 k) S32x128.size (k0_off5_inb i k h2)).toLoadRect X5)
            (View.readAt (Elt F) arg10.view (Rect.unit (s := S56x128x128) (k0_off2 i k 2#32 0#32) S1x1x128.size (k0_off2_inb i k h2 2 0)).toLoadRect X10)
            (View.readAt (Elt F) arg10.view (Rect.unit (s := S56x128x128) (k0_off2 i k 2#32 1#32) S1x1x128.size (k0_off2_inb i k h2 2 1)).toLoadRect X10)⟩,
         ⟨Rect.unit (s := S14x2048x512) (k0_off4 i k) S1x32x128.size (k0_off4_inb i k h2),
          decTile 1 (View.readAt (Elt F) arg5.view (Rect.unit (s := S2048x256) (k0_off1 k) S32x128.size (k0_off1_inb i k h2)).toLoadRect X5)
            (View.readAt (Elt F) arg10.view (Rect.unit (s := S56x128x128) (k0_off2 i k 1#32 0#32) S1x1x128.size (k0_off2_inb i k h2 1 0)).toLoadRect X10)
            (View.readAt (Elt F) arg10.view (Rect.unit (s := S56x128x128) (k0_off2 i k 1#32 1#32) S1x1x128.size (k0_off2_inb i k h2 1 1)).toLoadRect X10)⟩,
         ⟨Rect.unit (s := S14x2048x512) (k0_off3 i k) S1x32x128.size (k0_off3_inb i k h2),
          decTile 0 (View.readAt (Elt F) arg5.view (Rect.unit (s := S2048x256) (k0_off1 k) S32x128.size (k0_off1_inb i k h2)).toLoadRect X5)
            (View.readAt (Elt F) arg10.view (Rect.unit (s := S56x128x128) (k0_off2 i k 0#32 0#32) S1x1x128.size (k0_off2_inb i k h2 0 0)).toLoadRect X10)
            (View.readAt (Elt F) arg10.view (Rect.unit (s := S56x128x128) (k0_off2 i k 0#32 1#32) S1x1x128.size (k0_off2_inb i k h2 0 1)).toLoadRect X10)⟩] := by
  unfold tripL_k0_t1 trip_k0_t1
  rfl

/-- A piece of a trip is among the pieces of the trips before any later one. -/
theorem pb1_mem (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (v1 : BitVec 32) (h2 : k0_cond2 i = 1#1) (X5 : BufTy.Contents (Elt F) arg5.view.ty) (X10 : BufTy.Contents (Elt F) arg10.view.ty) (k : Fin k0_t1_loop.trips) (p) (hp : p ∈ tripL_k0_t1 (F := F) Variants.none c none i arg2 harg2 arg3 harg3 arg4 harg4 arg5 harg5 arg6 harg6 arg7 harg7 arg8 harg8 arg9 harg9 arg10 harg10 v1 h2 X5 X10 k) :
    ∀ n, k.val < n → n ≤ k0_t1_loop.trips → p ∈ pb_k0_t1 (F := F) Variants.none c none i arg2 harg2 arg3 harg3 arg4 harg4 arg5 harg5 arg6 harg6 arg7 harg7 arg8 harg8 arg9 harg9 arg10 harg10 v1 h2 X5 X10 n
  | 0, h, _ => absurd h (Nat.not_lt_zero _)
  | n + 1, h, hn => by
    rw [pb_k0_t1_succ (F := F) Variants.none c none i arg2 harg2 arg3 harg3 arg4 harg4 arg5 harg5 arg6 harg6 arg7 harg7 arg8 harg8 arg9 harg9 arg10 harg10 v1 h2 X5 X10 ⟨n, hn⟩, List.mem_append]
    rcases Nat.lt_succ_iff_lt_or_eq.mp h with h | h
    · exact .inr (pb1_mem c i arg2 harg2 arg3 harg3 arg4 harg4 arg5 harg5 arg6 harg6 arg7 harg7 arg8 harg8 arg9 harg9 arg10 harg10 v1 h2 X5 X10 k p hp n h (Nat.le_of_succ_le hn))
    · refine .inl ?_
      have e : k = ⟨n, hn⟩ := Fin.ext h
      rw [← e]; exact hp

/-- A piece of the trips before `n` is a piece of one of them. -/
theorem pb1_of_mem (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (v1 : BitVec 32) (h2 : k0_cond2 i = 1#1) (X5 : BufTy.Contents (Elt F) arg5.view.ty) (X10 : BufTy.Contents (Elt F) arg10.view.ty) (p) :
    ∀ n, n ≤ k0_t1_loop.trips → p ∈ pb_k0_t1 (F := F) Variants.none c none i arg2 harg2 arg3 harg3 arg4 harg4 arg5 harg5 arg6 harg6 arg7 harg7 arg8 harg8 arg9 harg9 arg10 harg10 v1 h2 X5 X10 n → ∃ k, p ∈ tripL_k0_t1 (F := F) Variants.none c none i arg2 harg2 arg3 harg3 arg4 harg4 arg5 harg5 arg6 harg6 arg7 harg7 arg8 harg8 arg9 harg9 arg10 harg10 v1 h2 X5 X10 k
  | 0, _, h => absurd h (by unfold pb_k0_t1; exact List.not_mem_nil)
  | n + 1, hn, h => by
    rw [pb_k0_t1_succ (F := F) Variants.none c none i arg2 harg2 arg3 harg3 arg4 harg4 arg5 harg5 arg6 harg6 arg7 harg7 arg8 harg8 arg9 harg9 arg10 harg10 v1 h2 X5 X10 ⟨n, hn⟩, List.mem_append] at h
    rcases h with h | h
    · exact ⟨_, h⟩
    · exact pb1_of_mem c i arg2 harg2 arg3 harg3 arg4 harg4 arg5 harg5 arg6 harg6 arg7 harg7 arg8 harg8 arg9 harg9 arg10 harg10 v1 h2 X5 X10 p n (Nat.le_of_succ_le hn) h

theorem rect3_mem {off : Fin 3 → ℕ} {a b d : ℕ} (e : off = ![a, b, d]) (inb : ∀ x, off x + S1x32x128.size x ≤ S14x2048x512.size x) (y : S14x2048x512.Idx) :
    y ∈ (Rect.unit (s := S14x2048x512) off S1x32x128.size inb).set ↔ (y 0).val = a ∧ (b ≤ (y 1).val ∧ (y 1).val < b + 32) ∧ (d ≤ (y 2).val ∧ (y 2).val < d + 128) := by
  subst e
  rw [Rect.mem_set_unit]
  constructor
  · intro h
    have h0 := h 0; have h1 := h 1; have h2 := h 2
    simp [S1x32x128] at h0 h1 h2
    omega
  · rintro ⟨h0, h1, h2⟩ x
    fin_cases x <;> simp [S1x32x128] <;> omega

/-- The value of a decoded weight, from the codes of its column tile and the expanded scales: row `y 1`, column `y 2` of the tile `y 0`. -/
def decVal (C : Vec Ideal S2048x256 .i8) (W : Vec Ideal S56x128x128 .f32) (y : S14x2048x512.Idx) : Ideal .bf16 :=
  have h0 : (y 0).val < 14 := (y 0).isLt
  have h1 : (y 1).val < 2048 := (y 1).isLt
  have h2 : (y 2).val < 512 := (y 2).isLt
  Ideal.ofBits .fp8e4m3 (kerByte (C (ix2 ⟨(y 1).val, h1⟩ ⟨(y 2).val / 2, by omega⟩)) ⟨(y 2).val % 2, by omega⟩)
    * W (ix3 ⟨4 * (y 0).val + (y 2).val / 128, by omega⟩ ⟨(y 1).val / 16, by omega⟩ ⟨(y 2).val % 128, by omega⟩)

theorem ix2_ext {n m : ℕ} {a : (⟨2, ![n, m]⟩ : Shape).Idx} {b : (⟨2, ![n, m]⟩ : Shape).Idx} (h0 : (a 0).val = (b 0).val) (h1 : (a 1).val = (b 1).val) : a = b := by
  funext x
  match x with
  | ⟨0, _⟩ => exact Fin.ext h0
  | ⟨1, _⟩ => exact Fin.ext h1

theorem ix3_ext {n m l : ℕ} {a b : (⟨3, ![n, m, l]⟩ : Shape).Idx} (h0 : (a 0).val = (b 0).val) (h1 : (a 1).val = (b 1).val) (h2 : (a 2).val = (b 2).val) : a = b := by
  funext x
  match x with
  | ⟨0, _⟩ => exact Fin.ext h0
  | ⟨1, _⟩ => exact Fin.ext h1
  | ⟨2, _⟩ => exact Fin.ext h2

/-- A tile decoded from 32 rows of codes and two rows of scales holds the values of its place in the slab. -/
theorem piece_val (C : Vec Ideal S2048x256 .i8) (W : Vec Ideal S56x128x128 .f32) (n k : ℕ) (hn : n < 14) (hk : k < 64) (q : Fin 4) (h : Fin 2) (hh : q.val % 2 = h.val)
    {off : Fin 3 → ℕ} (e : off = ![n, 32 * k, 128 * q.val]) (inb : ∀ x, off x + S1x32x128.size x ≤ S14x2048x512.size x)
    {o5 : Fin 2 → ℕ} (e5 : o5 = ![32 * k, 128 * (q.val / 2)]) (inb5 : ∀ x, o5 x + S32x128.size x ≤ S2048x256.size x)
    {o0 : Fin 3 → ℕ} (e0 : o0 = ![4 * n + q.val, 2 * k, 0]) (inb0 : ∀ x, o0 x + S1x1x128.size x ≤ S56x128x128.size x)
    {o1 : Fin 3 → ℕ} (e1 : o1 = ![4 * n + q.val, 2 * k + 1, 0]) (inb1 : ∀ x, o1 x + S1x1x128.size x ≤ S56x128x128.size x)
    (z : S1x32x128.Idx) :
    decTile h (fun x => C ((Rect.unit (s := S2048x256) o5 S32x128.size inb5).toLoadRect.idx x))
        (fun x => W ((Rect.unit (s := S56x128x128) o0 S1x1x128.size inb0).toLoadRect.idx x))
        (fun x => W ((Rect.unit (s := S56x128x128) o1 S1x1x128.size inb1).toLoadRect.idx x)) z
      = decVal C W ((Rect.unit (s := S14x2048x512) off S1x32x128.size inb).emb z) := by
  subst e e5 e0 e1
  have z0 : (z 0).val < 1 := (z 0).isLt
  have z1 : (z 1).val < 32 := (z 1).isLt
  have z2 : (z 2).val < 128 := (z 2).isLt
  have ez : z = ix3 0 ⟨(z 1).val, z1⟩ ⟨(z 2).val, z2⟩ := ix3_ext (by show _ = 0; omega) rfl rfl
  rw [ez, decTile_apply]
  generalize (z 1).val = r at *
  generalize (z 2).val = l at *
  unfold decVal
  dsimp only
  congr 1
  · congr 2
    · congr 1
      refine ix2_ext ?_ ?_
      · show 32 * k + 1 * r = 32 * k + 1 * r; rfl
      · show 128 * (q.val / 2) + 1 * (l / 2 + 64 * h.val) = (128 * q.val + 1 * l) / 2; omega
    · refine Fin.ext ?_
      show l % 2 = (128 * q.val + 1 * l) % 2; omega
  · split
    · congr 1
      refine ix3_ext ?_ ?_ ?_
      · show 4 * n + q.val + 1 * 0 = 4 * (n + 1 * 0) + (128 * q.val + 1 * l) / 128; omega
      · show 2 * k + 1 * 0 = (32 * k + 1 * r) / 16; omega
      · show 0 + 1 * l = (128 * q.val + 1 * l) % 128; omega
    · congr 1
      refine ix3_ext ?_ ?_ ?_
      · show 4 * n + q.val + 1 * 0 = 4 * (n + 1 * 0) + (128 * q.val + 1 * l) / 128; omega
      · show 2 * k + 1 + 1 * 0 = (32 * k + 1 * r) / 16; omega
      · show 0 + 1 * l = (128 * q.val + 1 * l) % 128; omega

theorem off1_eq (k : Fin k0_t1_loop.trips) : k0_off1 k = ![32 * k.val, 0] := by
  unfold k0_off1; simp only [iv1_toNat k]

theorem off5_eq (k : Fin k0_t1_loop.trips) : k0_off5 k = ![32 * k.val, 128] := by
  unfold k0_off5; simp only [iv1_toNat k]

theorem off2_eq (i : grid0.Coords) (k : Fin k0_t1_loop.trips) : ∀ (j : Fin 4) (q : Fin 2), k0_off2 i k (BitVec.ofNat 32 j.val) (BitVec.ofNat 32 q.val) = ![4 * (i 1).val + j.val, 2 * k.val + q.val, 0] := by
  intro j q
  have hk : ∀ (k : Fin 64) (q : Fin 2), k0_off2 i k (BitVec.ofNat 32 j.val) (BitVec.ofNat 32 q.val) 1 = 2 * k.val + q.val := by
    unfold k0_off2
    dsimp only [Matrix.cons_val_one, Matrix.cons_val_zero]
    decide +kernel
  have hi : ∀ (n : Fin 14) (j : Fin 4), (Scalar.indexCast (Scalar.addi (Scalar.muli (BitVec.ofNat 32 n.val) 4#32) (BitVec.ofNat 32 j.val)) : Index).toNat = 4 * n.val + j.val := by decide +kernel
  funext x
  fin_cases x
  · have := hi ⟨(i 1).val, (i 1).isLt⟩ j
    exact this
  · exact hk ⟨k.val, Nat.lt_of_lt_of_eq k.isLt trips1⟩ q
  · rfl

set_option maxHeartbeats 1000000 in
/-- Each piece of a trip lies in the slab of the point's column tile and holds the decoded values. -/
theorem trip1_val (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (v1 : BitVec 32) (h2 : k0_cond2 i = 1#1) (X5 : BufTy.Contents (Elt Ideal) arg5.view.ty) (X10 : BufTy.Contents (Elt Ideal) arg10.view.ty) (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 v1 h2 X5 X10 k,
      (∀ z : p.1.shape.Idx, p.2 z = decVal (arg5.view.read (Elt Ideal) X5) (arg10.view.read (Elt Ideal) X10) (p.1.emb z)) ∧ ∀ y ∈ p.1.set, (y 0).val = (i 1).val := by
  have hk : k.val < 64 := Nat.lt_of_lt_of_eq k.isLt trips1
  have hn : (i 1).val < 14 := (i 1).isLt
  rw [trip1_eq]
  simp only [List.forall_mem_cons]
  refine ⟨⟨fun z => ?_, fun y hm => ?_⟩, ⟨fun z => ?_, fun y hm => ?_⟩, ⟨fun z => ?_, fun y hm => ?_⟩, ⟨fun z => ?_, fun y hm => ?_⟩, fun p hp => absurd hp List.not_mem_nil⟩
  · exact piece_val _ _ _ _ hn hk 3 1 rfl (off7_eq i k) _ (off5_eq k) _ (off2_eq i k 3 0) _ (off2_eq i k 3 1) _ z
  · exact ((rect3_mem (off7_eq i k) (k0_off7_inb i k h2) y).mp hm).1
  · exact piece_val _ _ _ _ hn hk 2 0 rfl (off6_eq i k) _ (off5_eq k) _ (off2_eq i k 2 0) _ (off2_eq i k 2 1) _ z
  · exact ((rect3_mem (off6_eq i k) (k0_off6_inb i k h2) y).mp hm).1
  · exact piece_val _ _ _ _ hn hk 1 1 rfl (off4_eq i k) _ (off1_eq k) _ (off2_eq i k 1 0) _ (off2_eq i k 1 1) _ z
  · exact ((rect3_mem (off4_eq i k) (k0_off4_inb i k h2) y).mp hm).1
  · exact piece_val _ _ _ _ hn hk 0 0 rfl (off3_eq i k) _ (off1_eq k) _ (off2_eq i k 0 0) _ (off2_eq i k 0 1) _ z
  · exact ((rect3_mem (off3_eq i k) (k0_off3_inb i k h2) y).mp hm).1

set_option maxHeartbeats 1000000 in
/-- The pieces of all the trips cover the slab of the point's column tile. -/
theorem cover1 (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (v1 : BitVec 32) (h2 : k0_cond2 i = 1#1) (X5 : BufTy.Contents (Elt F) arg5.view.ty) (X10 : BufTy.Contents (Elt F) arg10.view.ty) (y : S14x2048x512.Idx) (hy : (y 0).val = (i 1).val) :
    ∃ p ∈ pb_k0_t1 (F := F) Variants.none c none i arg2 harg2 arg3 harg3 arg4 harg4 arg5 harg5 arg6 harg6 arg7 harg7 arg8 harg8 arg9 harg9 arg10 harg10 v1 h2 X5 X10 k0_t1_loop.trips, y ∈ p.1.set := by
  have y1 : (y 1).val < 2048 := (y 1).isLt
  have y2 : (y 2).val < 512 := (y 2).isLt
  have hk : (y 1).val / 32 < k0_t1_loop.trips := by rw [trips1]; omega
  have M := fun p hp => pb1_mem (F := F) c i arg2 harg2 arg3 harg3 arg4 harg4 arg5 harg5 arg6 harg6 arg7 harg7 arg8 harg8 arg9 harg9 arg10 harg10 v1 h2 X5 X10 ⟨_, hk⟩ p hp _ hk le_rfl
  rw [trip1_eq] at M
  simp only [List.forall_mem_cons] at M
  obtain ⟨M3, M2, M1, M0, -⟩ := M
  rcases (by omega : (y 2).val < 128 ∨ (128 ≤ (y 2).val ∧ (y 2).val < 256) ∨ (256 ≤ (y 2).val ∧ (y 2).val < 384) ∨ 384 ≤ (y 2).val) with h | h | h | h
  · exact ⟨_, M0, (rect3_mem (off3_eq i _) (k0_off3_inb i _ h2) y).mpr ⟨hy, by simp only []; omega, by omega⟩⟩
  · exact ⟨_, M1, (rect3_mem (off4_eq i _) (k0_off4_inb i _ h2) y).mpr ⟨hy, by simp only []; omega, by omega⟩⟩
  · exact ⟨_, M2, (rect3_mem (off6_eq i _) (k0_off6_inb i _ h2) y).mpr ⟨hy, by simp only []; omega, by omega⟩⟩
  · exact ⟨_, M3, (rect3_mem (off7_eq i _) (k0_off7_inb i _ h2) y).mpr ⟨hy, by simp only []; omega, by omega⟩⟩

/-- After all the trips the slab of the point's column tile holds the decoded values, -/
theorem slab_in (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (v1 : BitVec 32) (h2 : k0_cond2 i = 1#1) (X5 : BufTy.Contents (Elt Ideal) arg5.view.ty) (X10 : BufTy.Contents (Elt Ideal) arg10.view.ty) (f : BufTy.Contents (Elt Ideal) arg9.view.ty) (y : S14x2048x512.Idx) (hy : (y 0).val = (i 1).val) :
    arg9.view.read (Elt Ideal) (arg9.view.writes (Elt Ideal) f (pb_k0_t1 (F := Ideal) Variants.none c none i arg2 harg2 arg3 harg3 arg4 harg4 arg5 harg5 arg6 harg6 arg7 harg7 arg8 harg8 arg9 harg9 arg10 harg10 v1 h2 X5 X10 k0_t1_loop.trips)) y
      = decVal (arg5.view.read (Elt Ideal) X5) (arg10.view.read (Elt Ideal) X10) y := by
  refine View.read_writes_apply_of_pieces _ _ _ _ (fun p hp x => ?_) y (cover1 c i arg2 harg2 arg3 harg3 arg4 harg4 arg5 harg5 arg6 harg6 arg7 harg7 arg8 harg8 arg9 harg9 arg10 harg10 v1 h2 X5 X10 y hy)
  obtain ⟨k, hk⟩ := pb1_of_mem (F := Ideal) c i arg2 harg2 arg3 harg3 arg4 harg4 arg5 harg5 arg6 harg6 arg7 harg7 arg8 harg8 arg9 harg9 arg10 harg10 v1 h2 X5 X10 p _ le_rfl hp
  exact (trip1_val c i arg2 harg2 arg3 harg3 arg4 harg4 arg5 harg5 arg6 harg6 arg7 harg7 arg8 harg8 arg9 harg9 arg10 harg10 v1 h2 X5 X10 k p hk).1 x

/-- and the other slabs what they held. -/
theorem slab_out (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (v1 : BitVec 32) (h2 : k0_cond2 i = 1#1) (X5 : BufTy.Contents (Elt Ideal) arg5.view.ty) (X10 : BufTy.Contents (Elt Ideal) arg10.view.ty) (f : BufTy.Contents (Elt Ideal) arg9.view.ty) (y : S14x2048x512.Idx) (hy : (y 0).val ≠ (i 1).val) :
    arg9.view.read (Elt Ideal) (arg9.view.writes (Elt Ideal) f (pb_k0_t1 (F := Ideal) Variants.none c none i arg2 harg2 arg3 harg3 arg4 harg4 arg5 harg5 arg6 harg6 arg7 harg7 arg8 harg8 arg9 harg9 arg10 harg10 v1 h2 X5 X10 k0_t1_loop.trips)) y
      = arg9.view.read (Elt Ideal) f y := by
  refine View.read_writes_apply_of_forall_not_mem _ _ y _ (fun p hp hm => ?_)
  obtain ⟨k, hk⟩ := pb1_of_mem (F := Ideal) c i arg2 harg2 arg3 harg3 arg4 harg4 arg5 harg5 arg6 harg6 arg7 harg7 arg8 harg8 arg9 harg9 arg10 harg10 v1 h2 X5 X10 p _ le_rfl hp
  exact hy ((trip1_val c i arg2 harg2 arg3 harg3 arg4 harg4 arg5 harg5 arg6 harg6 arg7 harg7 arg8 harg8 arg9 harg9 arg10 harg10 v1 h2 X5 X10 k p hk).2 y hm)

end Cert.KernelIdeal.Gen

end
-- ==== Proof.ExpandValue.lean ====
/- The values of the expanded scales. -/
module

public import proofs.«01_k».proof.Proof.Expand
public import proofs.«01_k».proof.Proof.Slab

@[expose] public section

set_option maxRecDepth 16384

noncomputable section

namespace Cert.KernelIdeal.Gen

open Idealize.ShloMosaic Idealize.ShloMosaic.Pointwise Idealize.ShloMosaic.TcCoe
open Idealize.SL Idealize.SL.Sem
open Cert.Codes

/-- An expanded scale: 64 times the scale of the block, the lane being of the group of sixteen. -/
def expVal (x5 : Vec Ideal S128x448 .fp8e4m3) (y : S56x128x128.Idx) : Ideal .f32 :=
  have h0 : (y 0).val < 56 := (y 0).isLt
  have h1 : (y 1).val < 128 := (y 1).isLt
  have h2 : (y 2).val < 128 := (y 2).isLt
  x5 (ix2 ⟨(y 1).val, h1⟩ ⟨8 * (y 0).val + (y 2).val / 16, by omega⟩) * ((64 : ℝ) : EReal)

theorem pay8_apply (v : Vec Ideal S32x128 .fp8e4m3) (r : Fin 32) (l : Fin 128) : k0_pay8 (F := Ideal) v (ix2 r l) = v (ix2 r l) * ((64 : ℝ) : EReal) := by
  rw [← sixtyfour]
  pointwise [k0_pay8]

theorem pay11_apply (v : Vec Ideal S32x64 .fp8e4m3) (r : Fin 32) (l : Fin 128) (h : l.val < 64) : k0_pay11 (F := Ideal) v (ix2 r l) = v (ix2 r ⟨l.val, h⟩) * ((64 : ℝ) : EReal) := by
  rw [← sixtyfour]
  pointwise [k0_pay11]
  rw [dif_pos h]

/-- The scales a tile is made from, at an index. -/
theorem expSrc_apply (arg6 : Memref sig .tc .vmem S128x448 .fp8e4m3) (harg6 : arg6.IsWhole) (x5 : Vec Ideal S128x448 .fp8e4m3) (rb q : Fin 4) (r : Fin 32) (l : Fin 128) (h : 128 * q.val + l.val < 448) :
    expSrc arg6 harg6 x5 rb q (ix2 r l) = x5 (ix2 ⟨32 * rb.val + r.val, by omega⟩ ⟨128 * q.val + l.val, h⟩) * ((64 : ℝ) : EReal) := by
  unfold expSrc
  split
  · rw [pay8_apply, Memref.IsWhole.readAt_unread]
    congr 2
    refine ix2_ext ?_ ?_
    · show 32 * rb.val + 1 * r.val = 32 * rb.val + r.val; omega
    · show 128 * q.val + 1 * l.val = 128 * q.val + l.val; omega
  · rename_i hq
    have e : q.val = 3 := by omega
    rw [pay11_apply _ _ _ (by omega), Memref.IsWhole.readAt_unread]
    congr 2
    refine ix2_ext ?_ ?_
    · show 32 * rb.val + 1 * r.val = 32 * rb.val + r.val; omega
    · show 384 + 1 * l.val = 128 * q.val + l.val; omega

/-- Each stored tile holds the expanded scales of its place. -/
theorem expPiece_val (arg6 : Memref sig .tc .vmem S128x448 .fp8e4m3) (harg6 : arg6.IsWhole) (x5 : Vec Ideal S128x448 .fp8e4m3) (q : Fin 4 × Fin 56) (z : S1x32x128.Idx) :
    (expPiece arg6 harg6 x5 q).2 z = expVal x5 ((expPiece arg6 harg6 x5 q).1.emb z) := by
  obtain ⟨rb, j⟩ := q
  have z0 : (z 0).val < 1 := (z 0).isLt
  have z1 : (z 1).val < 32 := (z 1).isLt
  have z2 : (z 2).val < 128 := (z 2).isLt
  have hj := j.isLt
  have ez : z = ix3 0 ⟨(z 1).val, z1⟩ ⟨(z 2).val, z2⟩ := ix3_ext (by show _ = 0; omega) rfl rfl
  rw [ez]
  generalize (z 1).val = r at *
  generalize (z 2).val = l at *
  show expTile (8 * (⟨j.val % 16, by omega⟩ : Fin 16).val) (expSrc arg6 harg6 x5 rb ⟨j.val / 16, by omega⟩) (ix3 0 ⟨r, z1⟩ ⟨l, z2⟩) = _
  rw [expTile_apply, expSrc_apply _ _ _ _ _ _ _ (by simp only []; omega)]
  unfold expVal
  dsimp only
  congr 2
  refine ix2_ext ?_ ?_
  · show 32 * rb.val + r = 32 * rb.val + 1 * r; omega
  · show 128 * (j.val / 16) + (l / 16 + 8 * (j.val % 16)) = 8 * (j.val + 1 * 0) + (0 + 1 * l) / 16; omega

/-- After the conditional that expands the scales, its buffer holds them. -/
theorem read_runX (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole)
    (x5 : Vec Ideal S128x448 .fp8e4m3) (xs2 : Vec Ideal S56x128x128 .f32) (f : BufTy.Contents (Elt Ideal) arg10.view.ty) (y : S56x128x128.Idx) :
    arg10.view.read (Elt Ideal) (arg10.view.writes (Elt Ideal) f (runX c i arg2 harg2 arg3 harg3 arg4 harg4 arg5 harg5 arg6 harg6 arg7 harg7 arg8 harg8 arg9 harg9 arg10 harg10 x5 xs2).1) y = expVal x5 y := by
  have y0 : (y 0).val < 56 := (y 0).isLt
  have y1 : (y 1).val < 128 := (y 1).isLt
  have y2 : (y 2).val < 128 := (y 2).isLt
  rw [runX_eq]
  refine View.read_writes_apply_of_pieces (Val := Elt Ideal) (e := .f32) _ _ (expVal x5) _ (fun p hp x => ?_) y
    ⟨_, List.mem_map_of_mem (mem_expList ⟨(y 1).val / 32, by omega⟩ ⟨(y 0).val, y0⟩), ?_⟩
  · obtain ⟨q, -, rfl⟩ := List.mem_map.mp hp
    exact expPiece_val arg6 harg6 x5 q x
  · unfold expPiece
    rw [Rect.mem_set_unit]
    intro x
    fin_cases x <;> simp [S1x32x128] <;> omega

end Cert.KernelIdeal.Gen

end
-- ==== Proof.Body.lean ====
/- What the body leaves at a point, case by case: the block of the result, the copied gradient, the slab of decoded weights and the expanded scales. -/
module

public import proofs.«01_k».proof.Proof.RunA
public import proofs.«01_k».proof.Proof.RunB
public import proofs.«01_k».proof.Proof.RunC
public import proofs.«01_k».proof.Proof.RunD
public import proofs.«01_k».proof.Proof.ExpandValue
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.Codes

local notation "𝕄" => MT nD τ sig Unit (Elt Ideal) ℕ (UR sig nD τ) ℕ

/-- The block of the result: the product of the gradient's rows with the slab `n` of the decoded weights, times the two global scales. -/
def dxBlk (n : Fin 14) (x0 : Vec Ideal S1x1 .f32) (x1 : Vec Ideal S1 .f32) (A : Vec Ideal S384x2048 .bf16) (D : Vec Ideal S14x2048x512 .bf16) : Vec Ideal S384x512 .bf16 :=
  k0_pay7 (F := Ideal) (x0 (ix2 0 0)) A (fun x => D (ix3 n (x 1) (x 2))) (x1 (ix1 0))

/-- The decoded weights with the slab `n` filled. -/
def slabUpd (n : Fin 14) (C : Vec Ideal S2048x256 .i8) (W : Vec Ideal S56x128x128 .f32) (D : Vec Ideal S14x2048x512 .bf16) : Vec Ideal S14x2048x512 .bf16 :=
  fun y => if (y 0).val = n.val then decVal C W y else D y

/-- The column tile of a point. -/
def col (i : grid0.Coords) : Fin 14 := ⟨(i 1).val, (i 1).isLt⟩

theorem read_slab (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (h2 : cond0_1 i) (x3 : Vec Ideal S2048x256 .i8) (xs1 : Vec Ideal S14x2048x512 .bf16) (xs2 : Vec Ideal S56x128x128 .f32) :
    arg9.view.read (Elt Ideal) (arg9.view.writes (Elt Ideal) (harg9.unread xs1) (pb_k0_t1 (F := Ideal) Variants.none c none i arg2 harg2 arg3 harg3 arg4 harg4 arg5 harg5 arg6 harg6 arg7 harg7 arg8 harg8 arg9 harg9 arg10 harg10 (BitVec.ofNat 32 (i 1).val) h2 (harg5.unread x3) (harg10.unread xs2) k0_t1_loop.trips))
      = slabUpd (col i) x3 xs2 xs1 := by
  funext y
  unfold slabUpd
  split
  · rename_i hy
    rw [slab_in c i arg2 harg2 arg3 harg3 arg4 harg4 arg5 harg5 arg6 harg6 arg7 harg7 arg8 harg8 arg9 harg9 arg10 harg10 _ h2 _ _ _ y hy, harg5.read_unread, harg10.read_unread]
  · rename_i hy
    rw [slab_out c i arg2 harg2 arg3 harg3 arg4 harg4 arg5 harg5 arg6 harg6 arg7 harg7 arg8 harg8 arg9 harg9 arg10 harg10 _ h2 _ _ _ y hy, harg9.read_unread]

/-- A load of a whole buffer of rows and columns reads what it holds. -/
theorem whole2 {n m : ℕ} {e : EltTy} (v : View sig .tc .vmem (⟨2, ![n, m]⟩ : Shape) e) (f : v.ty.Contents (Elt Ideal)) (inb : ∀ a, (![0, 0] : Fin 2 → ℕ) a + (⟨2, ![n, m]⟩ : Shape).size a ≤ (⟨2, ![n, m]⟩ : Shape).size a) :
    v.readAt (Elt Ideal) (Rect.unit (s := (⟨2, ![n, m]⟩ : Shape)) ![0, 0] (⟨2, ![n, m]⟩ : Shape).size inb).toLoadRect f = v.read (Elt Ideal) f := by
  funext x
  rw [View.readAt_apply]
  congr 1
  refine ix2_ext ?_ ?_
  · show 0 + 1 * (x 0).val = (x 0).val; omega
  · show 0 + 1 * (x 1).val = (x 1).val; omega

/-- A store of a whole buffer of rows and columns leaves what it stores. -/
theorem store2 {n m : ℕ} {e : EltTy} (v : View sig .tc .vmem (⟨2, ![n, m]⟩ : Shape) e) (f : v.ty.Contents (Elt Ideal)) (inb : ∀ a, (![0, 0] : Fin 2 → ℕ) a + (⟨2, ![n, m]⟩ : Shape).size a ≤ (⟨2, ![n, m]⟩ : Shape).size a)
    (w : (⟨2, ![n, m]⟩ : Shape).Idx → Elt Ideal e) :
    v.read (Elt Ideal) (v.writes (Elt Ideal) f [⟨Rect.unit (s := (⟨2, ![n, m]⟩ : Shape)) ![0, 0] (⟨2, ![n, m]⟩ : Shape).size inb, w⟩]) = w := by
  funext x
  have ex : x = (Rect.unit (s := (⟨2, ![n, m]⟩ : Shape)) ![0, 0] (⟨2, ![n, m]⟩ : Shape).size inb).emb x := by
    refine ix2_ext ?_ ?_
    · show (x 0).val = 0 + 1 * (x 0).val; omega
    · show (x 1).val = 0 + 1 * (x 1).val; omega
  conv_lhs => rw [ex]
  rw [View.read_writes_cons_emb]

/-- The slab a point multiplies with. -/
theorem load_slab (i : grid0.Coords) (v : View sig .tc .vmem S14x2048x512 .bf16) (f : v.ty.Contents (Elt Ideal)) (inb : ∀ a, k0_off8 i a + S1x2048x512.size a ≤ S14x2048x512.size a) :
    v.readAt (Elt Ideal) (Rect.unit (s := S14x2048x512) (k0_off8 i) S1x2048x512.size inb).toLoadRect f
      = fun x => v.read (Elt Ideal) f (ix3 (col i) (x 1) (x 2)) := by
  funext x
  rw [View.readAt_apply]
  congr 1
  have e0 : k0_off8 i 0 = (i 1).val := congrFun (off8_eq i) 0
  have e1 : k0_off8 i 1 = 0 := congrFun (off8_eq i) 1
  have e2 : k0_off8 i 2 = 0 := congrFun (off8_eq i) 2
  have x0 : (x 0).val < 1 := (x 0).isLt
  refine ix3_ext ?_ ?_ ?_
  · show k0_off8 i 0 + 1 * (x 0).val = (i 1).val; omega
  · show k0_off8 i 1 + 1 * (x 1).val = (x 1).val; omega
  · show k0_off8 i 2 + 1 * (x 2).val = (x 2).val; omega

theorem load_g (arg2 : Memref sig .tc .smem S1x1 .f32) (harg2 : arg2.IsWhole) (x0 : Vec Ideal S1x1 .f32) (inb) (h) :
    View.readAt (Elt Ideal) arg2.view (Rect.unit (s := S1x1) ![0, 0] S1x1.size inb).toLoadRect (harg2.unread x0) (Shape.Idx.first h) = x0 (ix2 0 0) := by
  rw [Memref.IsWhole.readAt_unread]
  generalize (Rect.unit (s := S1x1) ![0, 0] S1x1.size inb).toLoadRect.idx _ = z
  have z0 : (z 0).val < 1 := (z 0).isLt
  have z1 : (z 1).val < 1 := (z 1).isLt
  exact congrArg x0 (ix2_ext (by show _ = 0; omega) (by show _ = 0; omega))

theorem load_w (arg3 : Memref sig .tc .smem S1 .f32) (harg3 : arg3.IsWhole) (x1 : Vec Ideal S1 .f32) (inb) (h) :
    View.readAt (Elt Ideal) arg3.view (Rect.unit (s := S1) ![0] S1.size inb).toLoadRect (harg3.unread x1) (Shape.Idx.first h) = x1 (ix1 0) := by
  rw [Memref.IsWhole.readAt_unread]
  generalize (Rect.unit (s := S1) ![0] S1.size inb).toLoadRect.idx _ = z
  have z0 : (z 0).val < 1 := (z 0).isLt
  refine congrArg x1 (funext fun a => ?_)
  match a with
  | ⟨0, _⟩ => exact Fin.ext (by show (z 0).val = 0; omega)

/-- The copy of the gradient's rows keeps them. -/
theorem pay6_eq (x : Vec Ideal S384x2048 .bf16) : k0_pay6 (F := Ideal) x = x := by
  funext y
  obtain ⟨a, b, rfl⟩ : ∃ a b, y = (ix2 a b : S384x2048.Idx) := ⟨y 0, y 1, ix2_ext rfl rfl⟩
  pointwise [k0_pay6]

set_option maxHeartbeats 1000000 in
/-- The block of the result that a later point of the first row of the grid stores. -/
theorem out7_B (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : cond0_1 i) (hc2 : ¬cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (f) :
    arg7.view.read (Elt Ideal) (arg7.view.writes (Elt Ideal) f (runB (F := Ideal) c i arg2 harg2 arg3 harg3 arg4 harg4 arg5 harg5 arg6 harg6 arg7 harg7 arg8 harg8 arg9 harg9 arg10 harg10 hc0 hc1 hc2 x0 x1 x2 x3 x4 x5 xs0 xs1 xs2).1.1) = dxBlk (col i) x0 x1 xs0 (slabUpd (col i) x3 xs2 xs1) := by
  unfold runB
  dsimp only
  refine (store2 arg7.view f _ _).trans ?_
  unfold dxBlk
  have e12 := (whole2 arg8.view (harg8.unread xs0) inb_S384x2048_S384x2048_0_0).trans (harg8.read_unread _)
  have e14 : runB.sl.v14 (F := Ideal) c i arg2 harg2 arg3 harg3 arg4 harg4 arg5 harg5 arg6 harg6 arg7 harg7 arg8 harg8 arg9 harg9 arg10 harg10 hc1 x3 xs1 xs2 = fun x => slabUpd (col i) x3 xs2 xs1 (ix3 (col i) (x 1) (x 2)) := by
    unfold runB.sl.v14
    refine (load_slab i arg9.view _ _).trans ?_
    funext x
    exact congrFun (read_slab c i arg2 harg2 arg3 harg3 arg4 harg4 arg5 harg5 arg6 harg6 arg7 harg7 arg8 harg8 arg9 harg9 arg10 harg10 hc1 x3 xs1 xs2) _
  have ev := (show runB.sl.r (F := Ideal) c arg2 harg2 x0 = _ from load_g arg2 harg2 x0 _ _)
  have ew : runB.sl.r_1 (F := Ideal) c arg3 harg3 x1 = _ := load_w arg3 harg3 x1 _ _
  exact congr (congr (congr (congrArg (k0_pay7 (F := Ideal)) ev) e12) e14) ew

/-- The body at a later point of the first row of the grid. -/
theorem triple_B (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : cond0_1 i) (hc2 : ¬cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (dxBlk (col i) x0 x1 xs0 (slabUpd (col i) x3 xs2 xs1)) ∗ owns (c : Thread nD τ) arg8 fullShare xs0 ∗ owns (c : Thread nD τ) arg9 fullShare (slabUpd (col i) x3 xs2 xs1) ∗ owns (c : Thread nD τ) arg10 fullShare xs2) -∗ K ⟨⟩))
      ⊢ wp frame (wpE (defs₀ (F := Ideal)) Variants.none c none) E (cc0_dgrad_main (F := Ideal) i arg2 harg2 arg3 harg3 arg4 harg4 arg5 harg5 arg6 harg6 arg7 harg7 arg8 harg8 arg9 harg9 arg10 harg10) K := by
  iintro ⟨H2, H3, H4, H5, H6, H7, H8, H9, H10, Hk⟩
  iapply ((runB (F := Ideal) c i arg2 harg2 arg3 harg3 arg4 harg4 arg5 harg5 arg6 harg6 arg7 harg7 arg8 harg8 arg9 harg9 arg10 harg10 hc0 hc1 hc2 x0 x1 x2 x3 x4 x5 xs0 xs1 xs2).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  iapply Hk
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact out7_B c i arg2 harg2 arg3 harg3 arg4 harg4 arg5 harg5 arg6 harg6 arg7 harg7 arg8 harg8 arg9 harg9 arg10 harg10 hc0 hc1 hc2 x0 x1 x2 x3 x4 x5 xs0 xs1 xs2 _
  isplitl [H8]; · iexact H8
  isplitl [H9]
  · unfold owns; iexists _; isplitr
    swap; · iexact H9
    ipureintro; exact read_slab c i arg2 harg2 arg3 harg3 arg4 harg4 arg5 harg5 arg6 harg6 arg7 harg7 arg8 harg8 arg9 harg9 arg10 harg10 hc1 x3 xs1 xs2
  iexact H10

set_option maxHeartbeats 1000000 in
/-- The block of the result that the first point of a later row stores. -/
theorem out7_C (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (f) :
    arg7.view.read (Elt Ideal) (arg7.view.writes (Elt Ideal) f (runC (F := Ideal) c i arg2 harg2 arg3 harg3 arg4 harg4 arg5 harg5 arg6 harg6 arg7 harg7 arg8 harg8 arg9 harg9 arg10 harg10 hc0 hc1 hc2 x0 x1 x2 x3 x4 x5 xs0 xs1 xs2).1.1) = dxBlk (col i) x0 x1 x2 xs1 := by
  unfold runC
  dsimp only
  refine (store2 arg7.view f _ _).trans ?_
  unfold dxBlk
  have e12 : runC.sl.v12 (F := Ideal) c arg4 harg4 arg8 x2 = x2 := by
    unfold runC.sl.v12 View.readCov runC.sl.H8_1
    refine (whole2 arg8.view _ _).trans ((store2 arg8.view _ _ _).trans ((pay6_eq _).trans ((whole2 arg4.view _ _).trans (harg4.read_unread _))))
  have e14 : View.readAt (Elt Ideal) arg9.view (Rect.unit (s := S14x2048x512) (k0_off8 i) S1x2048x512.size (k0_off8_inb i)).toLoadRect (harg9.unread xs1) = fun x => xs1 (ix3 (col i) (x 1) (x 2)) := by
    refine (load_slab i arg9.view _ _).trans ?_
    rw [harg9.read_unread]
  have ev := (show runC.sl.r (F := Ideal) c arg2 harg2 x0 = _ from load_g arg2 harg2 x0 _ _)
  have ew : runC.sl.r_1 (F := Ideal) c arg3 harg3 x1 = _ := load_w arg3 harg3 x1 _ _
  exact congr (congr (congr (congrArg (k0_pay7 (F := Ideal)) ev) e12) e14) ew

/-- The gradient's rows are copied by the first point of a later row. -/
theorem out8_C (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (f) :
    arg8.view.read (Elt Ideal) (arg8.view.writes (Elt Ideal) f (runC (F := Ideal) c i arg2 harg2 arg3 harg3 arg4 harg4 arg5 harg5 arg6 harg6 arg7 harg7 arg8 harg8 arg9 harg9 arg10 harg10 hc0 hc1 hc2 x0 x1 x2 x3 x4 x5 xs0 xs1 xs2).1.2) = x2 := by
  unfold runC
  dsimp only
  unfold runC.sl.H8_1
  exact (store2 arg8.view _ _ _).trans ((pay6_eq _).trans ((whole2 arg4.view _ _).trans (harg4.read_unread _)))

/-- The body at the first point of a later row. -/
theorem triple_C (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (dxBlk (col i) x0 x1 x2 xs1) ∗ owns (c : Thread nD τ) arg8 fullShare x2 ∗ owns (c : Thread nD τ) arg9 fullShare xs1 ∗ owns (c : Thread nD τ) arg10 fullShare xs2) -∗ K ⟨⟩))
      ⊢ wp frame (wpE (defs₀ (F := Ideal)) Variants.none c none) E (cc0_dgrad_main (F := Ideal) i arg2 harg2 arg3 harg3 arg4 harg4 arg5 harg5 arg6 harg6 arg7 harg7 arg8 harg8 arg9 harg9 arg10 harg10) K := by
  iintro ⟨H2, H3, H4, H5, H6, H7, H8, H9, H10, Hk⟩
  iapply ((runC (F := Ideal) c i arg2 harg2 arg3 harg3 arg4 harg4 arg5 harg5 arg6 harg6 arg7 harg7 arg8 harg8 arg9 harg9 arg10 harg10 hc0 hc1 hc2 x0 x1 x2 x3 x4 x5 xs0 xs1 xs2).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  iapply Hk
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact out7_C c i arg2 harg2 arg3 harg3 arg4 harg4 arg5 harg5 arg6 harg6 arg7 harg7 arg8 harg8 arg9 harg9 arg10 harg10 hc0 hc1 hc2 x0 x1 x2 x3 x4 x5 xs0 xs1 xs2 _
  isplitl [H8]
  · unfold owns; iexists _; isplitr
    swap; · iexact H8
    ipureintro; exact out8_C c i arg2 harg2 arg3 harg3 arg4 harg4 arg5 harg5 arg6 harg6 arg7 harg7 arg8 harg8 arg9 harg9 arg10 harg10 hc0 hc1 hc2 x0 x1 x2 x3 x4 x5 xs0 xs1 xs2 _
  isplitl [H9]; · iexact H9
  iexact H10

set_option maxHeartbeats 1000000 in
/-- The block of the result that a later point of a later row stores. -/
theorem out7_D (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : ¬cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (f) :
    arg7.view.read (Elt Ideal) (arg7.view.writes (Elt Ideal) f (runD (F := Ideal) c i arg2 harg2 arg3 harg3 arg4 harg4 arg5 harg5 arg6 harg6 arg7 harg7 arg8 harg8 arg9 harg9 arg10 harg10 hc0 hc1 hc2 x0 x1 x2 x3 x4 x5 xs0 xs1 xs2).1) = dxBlk (col i) x0 x1 xs0 xs1 := by
  unfold runD
  dsimp only
  refine (store2 arg7.view f _ _).trans ?_
  unfold dxBlk
  have e12 := (whole2 arg8.view (harg8.unread xs0) inb_S384x2048_S384x2048_0_0).trans (harg8.read_unread _)
  have e14 : View.readAt (Elt Ideal) arg9.view (Rect.unit (s := S14x2048x512) (k0_off8 i) S1x2048x512.size (k0_off8_inb i)).toLoadRect (harg9.unread xs1) = fun x => xs1 (ix3 (col i) (x 1) (x 2)) := by
    refine (load_slab i arg9.view _ _).trans ?_
    rw [harg9.read_unread]
  have ev := (show runD.sl.r (F := Ideal) c arg2 harg2 x0 = _ from load_g arg2 harg2 x0 _ _)
  have ew : runD.sl.r_1 (F := Ideal) c arg3 harg3 x1 = _ := load_w arg3 harg3 x1 _ _
  exact congr (congr (congr (congrArg (k0_pay7 (F := Ideal)) ev) e12) e14) ew

/-- The body at a later point of a later row. -/
theorem triple_D (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : ¬cond0_0 i) (hc1 : ¬cond0_1 i) (hc2 : ¬cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (dxBlk (col i) x0 x1 xs0 xs1) ∗ owns (c : Thread nD τ) arg8 fullShare xs0 ∗ owns (c : Thread nD τ) arg9 fullShare xs1 ∗ owns (c : Thread nD τ) arg10 fullShare xs2) -∗ K ⟨⟩))
      ⊢ wp frame (wpE (defs₀ (F := Ideal)) Variants.none c none) E (cc0_dgrad_main (F := Ideal) i arg2 harg2 arg3 harg3 arg4 harg4 arg5 harg5 arg6 harg6 arg7 harg7 arg8 harg8 arg9 harg9 arg10 harg10) K := by
  iintro ⟨H2, H3, H4, H5, H6, H7, H8, H9, H10, Hk⟩
  iapply ((runD (F := Ideal) c i arg2 harg2 arg3 harg3 arg4 harg4 arg5 harg5 arg6 harg6 arg7 harg7 arg8 harg8 arg9 harg9 arg10 harg10 hc0 hc1 hc2 x0 x1 x2 x3 x4 x5 xs0 xs1 xs2).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  iapply Hk
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact out7_D c i arg2 harg2 arg3 harg3 arg4 harg4 arg5 harg5 arg6 harg6 arg7 harg7 arg8 harg8 arg9 harg9 arg10 harg10 hc0 hc1 hc2 x0 x1 x2 x3 x4 x5 xs0 xs1 xs2 _
  isplitl [H8]; · iexact H8
  isplitl [H9]; · iexact H9
  iexact H10

set_option maxHeartbeats 1000000 in
/-- The block of the result that the first point stores. -/
theorem out7_A (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc1 : cond0_1 i) (hc2 : cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (v0 : Elt Ideal .f32) (hv0 : v0 = x0 (ix2 0 0)) (f) :
    arg7.view.read (Elt Ideal) (arg7.view.writes (Elt Ideal) f (runA (F := Ideal) c i arg2 harg2 arg3 harg3 arg4 harg4 arg5 harg5 arg6 harg6 arg7 harg7 arg8 harg8 arg9 harg9 arg10 harg10 hc1 hc2 v0 x0 x1 x2 x3 x4 x5 xs0 xs1 xs2).1.1) = dxBlk (col i) x0 x1 x2 (slabUpd (col i) x3 xs2 xs1) := by
  unfold runA
  dsimp only
  refine (store2 arg7.view f _ _).trans ?_
  unfold dxBlk
  have e12 : runA.sl.v12 (F := Ideal) c arg4 harg4 arg8 x2 = x2 := by
    unfold runA.sl.v12 View.readCov runA.sl.H8_1
    refine (whole2 arg8.view _ _).trans ((store2 arg8.view _ _ _).trans ((pay6_eq _).trans ((whole2 arg4.view _ _).trans (harg4.read_unread _))))
  have e14 : runA.sl.v14 (F := Ideal) c i arg2 harg2 arg3 harg3 arg4 harg4 arg5 harg5 arg6 harg6 arg7 harg7 arg8 harg8 arg9 harg9 arg10 harg10 hc1 x3 xs1 xs2 = fun x => slabUpd (col i) x3 xs2 xs1 (ix3 (col i) (x 1) (x 2)) := by
    unfold runA.sl.v14
    refine (load_slab i arg9.view _ _).trans ?_
    funext x
    exact congrFun (read_slab c i arg2 harg2 arg3 harg3 arg4 harg4 arg5 harg5 arg6 harg6 arg7 harg7 arg8 harg8 arg9 harg9 arg10 harg10 hc1 x3 xs1 xs2) _
  have ev := hv0
  have ew : runA.sl.r (F := Ideal) c arg3 harg3 x1 = _ := load_w arg3 harg3 x1 _ _
  exact congr (congr (congr (congrArg (k0_pay7 (F := Ideal)) ev) e12) e14) ew

/-- The gradient's rows are copied by the first point. -/
theorem out8_A (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc1 : cond0_1 i) (hc2 : cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (v0 : Elt Ideal .f32) (f) :
    arg8.view.read (Elt Ideal) (arg8.view.writes (Elt Ideal) f (runA (F := Ideal) c i arg2 harg2 arg3 harg3 arg4 harg4 arg5 harg5 arg6 harg6 arg7 harg7 arg8 harg8 arg9 harg9 arg10 harg10 hc1 hc2 v0 x0 x1 x2 x3 x4 x5 xs0 xs1 xs2).1.2.1) = x2 := by
  unfold runA
  dsimp only
  unfold runA.sl.H8_1
  exact (store2 arg8.view _ _ _).trans ((pay6_eq _).trans ((whole2 arg4.view _ _).trans (harg4.read_unread _)))

/-- The load of the gradient's global scale. -/
theorem wp_load_g (c : Dev nD) (arg2 : Memref sig .tc .smem S1x1 .f32) (harg2 : arg2.IsWhole) (x0 : Vec Ideal S1x1 .f32) (E : Set ℕ) (K : Elt Ideal .f32 → sProp 𝕄) :
    iprop(owns (c : Thread nD τ) arg2 fullShare x0 ∗ (owns (c : Thread nD τ) arg2 fullShare x0 -∗ K (x0 (ix2 0 0))))
      ⊢ wp frame (wpE (defs₀ (F := Ideal)) Variants.none c none) E (smemLoad arg2 (Rect.unit (s := S1x1) ![0, 0] S1x1.size inb_S1x1_S1x1_0_0) numel1_S1x1 rfl) K := by
  unfold owns
  iintro ⟨⟨%f2, %hf2, H2⟩, Hk⟩
  obtain rfl := harg2.eq_unread hf2
  sl_exec
  sl_step
  rw [load_g arg2 harg2 x0]
  iapply Hk
  iexists _; isplitr; · ipureintro; exact harg2.read_unread _
  iexact H2

/-- The body at the first point: the scales are expanded first. -/
theorem triple_A (c : Dev nD) (i : grid0.Coords) (arg2 : Memref sig .tc .smem S1x1 .f32) (harg2 : arg2.IsWhole) (arg3 : Memref sig .tc .smem S1 .f32) (harg3 : arg3.IsWhole) (arg4 : Memref sig .tc .vmem S384x2048 .bf16) (harg4 : arg4.IsWhole) (arg5 : Memref sig .tc .vmem S2048x256 .i8) (harg5 : arg5.IsWhole) (arg6 : Memref sig .tc .vmem S128x448 .fp8e4m3) (harg6 : arg6.IsWhole) (arg7 : Memref sig .tc .vmem S384x512 .bf16) (harg7 : arg7.IsWhole) (arg8 : Memref sig .tc .vmem S384x2048 .bf16) (harg8 : arg8.IsWhole) (arg9 : Memref sig .tc .vmem S14x2048x512 .bf16) (harg9 : arg9.IsWhole) (arg10 : Memref sig .tc .vmem S56x128x128 .f32) (harg10 : arg10.IsWhole) (hc0 : cond0_0 i) (hc1 : cond0_1 i) (hc2 : cond0_2 i)
    (x0 : Vec Ideal S1x1 .f32) (x1 : Vec Ideal S1 .f32) (x2 : Vec Ideal S384x2048 .bf16) (x3 : Vec Ideal S2048x256 .i8) (x4 : Vec Ideal S128x448 .fp8e4m3) (x5 : Vec Ideal S384x512 .bf16) (xs0 : Vec Ideal S384x2048 .bf16) (xs1 : Vec Ideal S14x2048x512 .bf16) (xs2 : Vec Ideal S56x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (dxBlk (col i) x0 x1 x2 (slabUpd (col i) x3 (expVal x4) xs1)) ∗ owns (c : Thread nD τ) arg8 fullShare x2 ∗ owns (c : Thread nD τ) arg9 fullShare (slabUpd (col i) x3 (expVal x4) xs1) ∗ owns (c : Thread nD τ) arg10 fullShare (expVal x4)) -∗ K ⟨⟩))
      ⊢ wp frame (wpE (defs₀ (F := Ideal)) Variants.none c none) E (cc0_dgrad_main (F := Ideal) i arg2 harg2 arg3 harg3 arg4 harg4 arg5 harg5 arg6 harg6 arg7 harg7 arg8 harg8 arg9 harg9 arg10 harg10) K := by
  rw [main_eq_rest i arg2 harg2 arg3 harg3 arg4 harg4 arg5 harg5 arg6 harg6 arg7 harg7 arg8 harg8 arg9 harg9 arg10 harg10 hc0 hc1 hc2]
  iintro ⟨H2, H3, H4, H5, H6, H7, H8, H9, H10, Hk⟩
  rw [wp_bind]
  iapply (wp_load_g c arg2 harg2 x0 E _)
  isplitl [H2]; · iexact H2
  iintro H2
  rw [wp_bind]
  iapply ((runX (F := Ideal) c i arg2 harg2 arg3 harg3 arg4 harg4 arg5 harg5 arg6 harg6 arg7 harg7 arg8 harg8 arg9 harg9 arg10 harg10 x4 xs2).2 E _)
  isplitl [H6]; · iexact H6
  isplitl [H10]; · iexact H10
  iintro ⟨H6, H10⟩
  iapply ((runA (F := Ideal) c i arg2 harg2 arg3 harg3 arg4 harg4 arg5 harg5 arg6 harg6 arg7 harg7 arg8 harg8 arg9 harg9 arg10 harg10 hc1 hc2 _ x0 x1 x2 x3 x4 x5 xs0 xs1 (expVal x4)).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; funext y; exact read_runX c i arg2 harg2 arg3 harg3 arg4 harg4 arg5 harg5 arg6 harg6 arg7 harg7 arg8 harg8 arg9 harg9 arg10 harg10 x4 xs2 _ y
  iintro ⟨H2, H3, H4, H5, H6, H7, H8, H9, H10⟩
  iapply Hk
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact out7_A c i arg2 harg2 arg3 harg3 arg4 harg4 arg5 harg5 arg6 harg6 arg7 harg7 arg8 harg8 arg9 harg9 arg10 harg10 hc1 hc2 x0 x1 x2 x3 x4 x5 xs0 xs1 (expVal x4) _ rfl _
  isplitl [H8]
  · unfold owns; iexists _; isplitr
    swap; · iexact H8
    ipureintro; exact out8_A c i arg2 harg2 arg3 harg3 arg4 harg4 arg5 harg5 arg6 harg6 arg7 harg7 arg8 harg8 arg9 harg9 arg10 harg10 hc1 hc2 x0 x1 x2 x3 x4 x5 xs0 xs1 (expVal x4) _ _
  isplitl [H9]
  · unfold owns; iexists _; isplitr
    swap; · iexact H9
    ipureintro; exact read_slab c i arg2 harg2 arg3 harg3 arg4 harg4 arg5 harg5 arg6 harg6 arg7 harg7 arg8 harg8 arg9 harg9 arg10 harg10 hc1 x3 xs1 (expVal x4)
  iexact H10

end Cert.KernelIdeal.Gen

end
-- ==== Proof.Pipe.lean ====
/- The run of the pipeline with the values the body leaves: the blocks of the result, point by point. -/
module

public import proofs.«01_k».proof.Proof.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise Cert.Codes

local notation "𝕄" => MT nD τ sig Unit (Elt Ideal) ℕ (UR sig nD τ) ℕ

variable (m : (ℓ : Loc nD τ sig) → Buf (Elt Ideal) ℓ) (ρ : Dev nD → PrngReg)

/-! ## The blocks of the inputs -/

/-- The block of a window at a point, at its type. -/
abbrev bG (c : Dev nD) (t : Fin cfg0.N) : Vec Ideal S1x1 .f32 := iblk m c 0 t
abbrev bW (c : Dev nD) (t : Fin cfg0.N) : Vec Ideal S1 .f32 := iblk m c 1 t
abbrev bY (c : Dev nD) (t : Fin cfg0.N) : Vec Ideal S384x2048 .bf16 := iblk m c 2 t
abbrev bC (c : Dev nD) (t : Fin cfg0.N) : Vec Ideal S2048x256 .i8 := iblk m c 3 t
abbrev bS (c : Dev nD) (t : Fin cfg0.N) : Vec Ideal S128x448 .fp8e4m3 := iblk m c 4 t

/-- The arrays as the pipeline finds them. -/
abbrev aG (c : Dev nD) : Vec Ideal S1x1 .f32 := V m c main_arg4
abbrev aW (c : Dev nD) : Vec Ideal S1 .f32 := V m c main_v1
abbrev aY (c : Dev nD) : Vec Ideal S1536x2048 .bf16 := V m c main_v0
abbrev aC (c : Dev nD) : Vec Ideal S2048x3584 .i8 := V m c main_arg1
abbrev aS (c : Dev nD) : Vec Ideal S128x448 .fp8e4m3 := V m c main_arg2

theorem lt56 (t : Fin cfg0.N) : t.val < 56 := lt_of_lt_of_eq t.isLt (show cfg0.N = 56 from N_0)

theorem idx2 : ∀ t : Fin grid0.N, win0_2.index t 0 = t.val / 14 ∧ win0_2.index t 1 = 0 := by decide +kernel
theorem idx3 : ∀ t : Fin grid0.N, t.val < 14 → win0_3.index t 0 = 0 ∧ win0_3.index t 1 = t.val := by decide +kernel
theorem idx5 : ∀ t : Fin grid0.N, win0_5.index t 0 = t.val / 14 ∧ win0_5.index t 1 = t.val % 14 := by decide +kernel
theorem col_val : ∀ t : Fin grid0.N, (col (grid0.coords t)).val = t.val % 14 := by decide +kernel

theorem bG_eq (c : Dev nD) (t : Fin cfg0.N) : bG m c t = aG m c := by
  funext j
  show iblk m c 0 t j = _
  unfold iblk
  rw [View.read_apply]
  show V m c main_arg4 _ = V m c main_arg4 _
  refine congrArg (V m c main_arg4) (ix2_ext ?_ ?_)
  · show 0 * 1 + 1 * (j 0).val = (j 0).val; omega
  · show 0 * 1 + 1 * (j 1).val = (j 1).val; omega

theorem bW_eq (c : Dev nD) (t : Fin cfg0.N) : bW m c t = aW m c := by
  funext j
  show iblk m c 1 t j = _
  unfold iblk
  rw [View.read_apply]
  show V m c main_v1 _ = V m c main_v1 _
  refine congrArg (V m c main_v1) (funext fun a => ?_)
  match a with
  | ⟨0, _⟩ => exact Fin.ext (by show 0 * 1 + 1 * (j 0).val = (j 0).val; omega)

theorem bS_eq (c : Dev nD) (t : Fin cfg0.N) : bS m c t = aS m c := by
  funext j
  show iblk m c 4 t j = _
  unfold iblk
  rw [View.read_apply]
  show V m c main_arg2 _ = V m c main_arg2 _
  refine congrArg (V m c main_arg2) (ix2_ext ?_ ?_)
  · show 0 * 128 + 1 * (j 0).val = (j 0).val; omega
  · show 0 * 448 + 1 * (j 1).val = (j 1).val; omega

theorem bY_apply (c : Dev nD) (t : Fin cfg0.N) (j : S384x2048.Idx) :
    bY m c t j = aY m c (ix2 ⟨384 * (t.val / 14) + (j 0).val, by have h : (j 0).val < 384 := (j 0).isLt; have := lt56 t; omega⟩ (j 1)) := by
  show iblk m c 2 t j = _
  unfold iblk
  rw [View.read_apply]
  show V m c main_v0 _ = V m c main_v0 _
  refine congrArg (V m c main_v0) (ix2_ext ?_ ?_)
  · show win0_2.index t 0 * 384 + 1 * (j 0).val = 384 * (t.val / 14) + (j 0).val
    rw [(idx2 t).1]; omega
  · show win0_2.index t 1 * 2048 + 1 * (j 1).val = (j 1).val
    rw [(idx2 t).2]; omega

theorem bC_apply (c : Dev nD) (t : Fin cfg0.N) (ht : t.val < 14) (j : S2048x256.Idx) :
    bC m c t j = aC m c (ix2 (j 0) ⟨256 * t.val + (j 1).val, by have h : (j 1).val < 256 := (j 1).isLt; omega⟩) := by
  show iblk m c 3 t j = _
  unfold iblk
  rw [View.read_apply]
  show V m c main_arg1 _ = V m c main_arg1 _
  refine congrArg (V m c main_arg1) (ix2_ext ?_ ?_)
  · show win0_3.index t 0 * 2048 + 1 * (j 0).val = (j 0).val
    rw [(idx3 t ht).1]; omega
  · show win0_3.index t 1 * 256 + 1 * (j 1).val = 256 * t.val + (j 1).val
    rw [(idx3 t ht).2]; omega

/-- The gradient's block stays through a row of the grid. -/
theorem bY_prev (c : Dev nD) (t : Fin cfg0.N) (h : ¬ t.val % 14 = 0) (h' : t.val - 1 < cfg0.N) : bY m c ⟨t.val - 1, h'⟩ = bY m c t := by
  funext j
  rw [bY_apply, bY_apply]
  refine congrArg (aY m c) (ix2_ext ?_ rfl)
  show 384 * ((t.val - 1) / 14) + (j 0).val = 384 * (t.val / 14) + (j 0).val
  omega

/-! ## The decoded weights and the blocks of the result -/

/-- All the decoded weights. -/
def wVal (c : Dev nD) : Vec Ideal S14x2048x512 .bf16 := fun y =>
  decVal (bC m c ⟨(y 0).val, by have h : (y 0).val < 14 := (y 0).isLt; have : cfg0.N = 56 := N_0; omega⟩) (expVal (aS m c)) y

/-- The block of the result at a point. -/
def dxAt (c : Dev nD) (t : Fin cfg0.N) : Vec Ideal S384x512 .bf16 :=
  dxBlk (col (grid0.coords t)) (bG m c t) (bW m c t) (bY m c t) (wVal m c)

/-- The block of the result depends on one slab of the weights. -/
theorem dxBlk_congr (n : Fin 14) (x0 : Vec Ideal S1x1 .f32) (x1 : Vec Ideal S1 .f32) (A : Vec Ideal S384x2048 .bf16) (D D' : Vec Ideal S14x2048x512 .bf16)
    (h : ∀ y : S14x2048x512.Idx, (y 0).val = n.val → D y = D' y) : dxBlk n x0 x1 A D = dxBlk n x0 x1 A D' := by
  unfold dxBlk
  congr 1
  funext x
  exact h _ rfl

/-- Filling the slab of a point of the first row makes one more slab right. -/
theorem slab_next (c : Dev nD) (t : Fin cfg0.N) (ht : t.val < 14) (D : Vec Ideal S14x2048x512 .bf16)
    (h : ∀ y : S14x2048x512.Idx, (y 0).val < t.val → D y = wVal m c y) :
    ∀ y : S14x2048x512.Idx, (y 0).val < t.val + 1 → slabUpd (col (grid0.coords t)) (bC m c t) (expVal (aS m c)) D y = wVal m c y := by
  intro y hy
  have hc := col_val t
  unfold slabUpd
  split
  · rename_i e
    unfold wVal
    have ey : (y 0).val = t.val := by omega
    congr 1
    congr 1
    exact Fin.ext ey.symm
  · exact h y (by omega)

/-! ## The pipeline's proof data -/

/-- Between two points: the copied rows of the gradient are the last point's, the slabs of the weights filled so far are right, the scales are expanded. -/
def PhiS (c : Dev nD) : (n : ℕ) → n ≤ cfg0.N → sProp 𝕄
  | 0, _ => Pipeline.ΦA spec0 c
  | n + 1, hn => iprop(iprop(owns (c : Thread nD τ) scM0_0 fullShare (bY m c ⟨n, hn⟩) ∗ (∃ d, ⌜∀ y : S14x2048x512.Idx, (y 0).val < n + 1 → d y = wVal m c y⌝ ∗ owns (c : Thread nD τ) scM0_1 fullShare d) ∗ owns (c : Thread nD τ) scM0_2 fullShare (expVal (aS m c))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (bY m c ⟨n, hn⟩) ∗ (∃ d, ⌜∀ y : S14x2048x512.Idx, (y 0).val < n + 1 → d y = wVal m c y⌝ ∗ owns (c : Thread nD τ) scM0_1 fullShare d) ∗ owns (c : Thread nD τ) scM0_2 fullShare (expVal (aS m c))) ∗ (∃ r, prngReg c r)) := rfl

theorem PhiS_pos (c : Dev nD) (n : ℕ) (h : n ≤ cfg0.N) (hz : n ≠ 0) :
    PhiS m c n h = iprop(iprop(owns (c : Thread nD τ) scM0_0 fullShare (bY m c ⟨n - 1, by omega⟩) ∗ (∃ d, ⌜∀ y : S14x2048x512.Idx, (y 0).val < n → d y = wVal m c y⌝ ∗ owns (c : Thread nD τ) scM0_1 fullShare d) ∗ owns (c : Thread nD τ) scM0_2 fullShare (expVal (aS m c))) ∗ (∃ r, prngReg c r)) := by
  cases n with
  | zero => exact absurd rfl hz
  | succ n => rfl

/-- The proof data of the pipeline: each input's buffer holds its block after every point, the result's the block of the product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dxAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point: the case of the point is run from what the last point left. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 56 := lt56 t
  have hcol := col_val t
  have hS := bS_eq m c t
  by_cases h0 : t.val % 56 = 0
  · have hz : t.val = 0 := by omega
    have h1 : t.val < 14 := by omega
    have h2 : t.val % 14 = 0 := by omega
    rw [PhiS_castSucc m c t, PhiS_zero m c _ _ hz, PhiA0_eq]
    iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩⟩
    iapply (triple_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) ((hcond0_2 t).mpr h2) (bG m c t) (bW m c t) (bY m c t) (bC m c t) (bS m c t) _ e0 e1 e2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    rw [show expVal (bS m c t) = expVal (aS m c) from congrArg expVal hS]
    have hD := slab_next m c t h1 e1 (fun y hy => absurd hy (by omega))
    rw [show dxBlk (col (grid0.coords t)) (bG m c t) (bW m c t) (bY m c t) _ = dxAt m c t from dxBlk_congr _ _ _ _ _ _ (fun y hy => hD y (by have h := Nat.mod_le t.val 14; omega))]
    isplitl [HS0 HS1 HS2 Hg]
    · isplitl [HS0 HS1 HS2]
      · isplitl [HS0]; · iexact HS0
        isplitl [HS1]
        · iexists _; isplitr
          swap; · iexact HS1
          ipureintro; exact hD
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := by omega
    by_cases h1 : t.val < 14
    · have h2 : ¬ t.val % 14 = 0 := by omega
      rw [PhiS_castSucc m c t, PhiS_pos m c _ _ hz]
      iintro ⟨⟨⟨HS0, ⟨%e1, %hd, HS1⟩, HS2⟩, Hg⟩, Ho, ⟨%d0, H0⟩, ⟨%d1, H1⟩, ⟨%d2, H2⟩, ⟨%d3, H3⟩, ⟨%d4, H4⟩, ⟨%d5, H5⟩⟩
      rw [bY_prev m c t h2 _]
      iapply (triple_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (bG m c t) (bW m c t) (bY m c t) (bC m c t) (bS m c t) _ (bY m c t) e1 (expVal (aS m c)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      have hD := slab_next m c t h1 e1 hd
      rw [show dxBlk (col (grid0.coords t)) (bG m c t) (bW m c t) (bY m c t) _ = dxAt m c t from dxBlk_congr _ _ _ _ _ _ (fun y hy => hD y (by have h := Nat.mod_le t.val 14; omega))]
      isplitl [HS0 HS1 HS2 Hg]
      · isplitl [HS0 HS1 HS2]
        · isplitl [HS0]; · iexact HS0
          isplitl [HS1]
          · iexists _; isplitr
            swap; · iexact HS1
            ipureintro; exact hD
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · by_cases h2 : t.val % 14 = 0
      · rw [PhiS_castSucc m c t, PhiS_pos m c _ _ hz]
        iintro ⟨⟨⟨HS0, ⟨%e1, %hd, HS1⟩, HS2⟩, Hg⟩, Ho, ⟨%d0, H0⟩, ⟨%d1, H1⟩, ⟨%d2, H2⟩, ⟨%d3, H3⟩, ⟨%d4, H4⟩, ⟨%d5, H5⟩⟩
        iapply (triple_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (bG m c t) (bW m c t) (bY m c t) (bC m c t) (bS m c t) _ _ e1 (expVal (aS m c)) Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        have hD : ∀ y : S14x2048x512.Idx, (y 0).val < t.val + 1 → e1 y = wVal m c y := fun y hy => hd y (by have h : (y 0).val < 14 := (y 0).isLt; omega)
        rw [show dxBlk (col (grid0.coords t)) (bG m c t) (bW m c t) (bY m c t) _ = dxAt m c t from dxBlk_congr _ _ _ _ _ _ (fun y hy => hD y (by have h := Nat.mod_le t.val 14; omega))]
        isplitl [HS0 HS1 HS2 Hg]
        · isplitl [HS0 HS1 HS2]
          · isplitl [HS0]; · iexact HS0
            isplitl [HS1]
            · iexists _; isplitr
              swap; · iexact HS1
              ipureintro; exact hD
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc m c t, PhiS_pos m c _ _ hz]
        iintro ⟨⟨⟨HS0, ⟨%e1, %hd, HS1⟩, HS2⟩, Hg⟩, Ho, ⟨%d0, H0⟩, ⟨%d1, H1⟩, ⟨%d2, H2⟩, ⟨%d3, H3⟩, ⟨%d4, H4⟩, ⟨%d5, H5⟩⟩
        rw [bY_prev m c t h2 _]
        iapply (triple_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (bG m c t) (bW m c t) (bY m c t) (bC m c t) (bS m c t) _ (bY m c t) e1 (expVal (aS m c)) Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        have hD : ∀ y : S14x2048x512.Idx, (y 0).val < t.val + 1 → e1 y = wVal m c y := fun y hy => hd y (by have h : (y 0).val < 14 := (y 0).isLt; omega)
        rw [show dxBlk (col (grid0.coords t)) (bG m c t) (bW m c t) (bY m c t) _ = dxAt m c t from dxBlk_congr _ _ _ _ _ _ (fun y hy => hD y (by have h := Nat.mod_le t.val 14; omega))]
        isplitl [HS0 HS1 HS2 Hg]
        · isplitl [HS0 HS1 HS2]
          · isplitl [HS0]; · iexact HS0
            isplitl [HS1]
            · iexists _; isplitr
              swap; · iexact HS1
              ipureintro; exact hD
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5

theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers are given back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 56 := N_0; omega), PhiA0_eq]
  iintro ⟨⟨HS0, ⟨%e1, %hd, HS1⟩, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- The run of the program: the arrays end as the proof data say, the counters at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-! ## The array of the result -/

/-- The result's element at a row and a column: its block's. -/
def result (c : Dev nD) : Vec Ideal S1536x7168 .bf16 := fun y =>
  have h0 : (y 0).val < 1536 := (y 0).isLt
  have h1 : (y 1).val < 7168 := (y 1).isLt
  dxAt m c ⟨14 * ((y 0).val / 384) + (y 1).val / 512, by have : cfg0.N = 56 := N_0; omega⟩ (ix2 ⟨(y 0).val % 384, by omega⟩ ⟨(y 1).val % 512, by omega⟩)

theorem flushed_eq (c : Dev nD) (t : Fin cfg0.N) (hf : (cfg0.win 5).flush t = true) :
    (dats m 0 c).flushed 5 t = ((cfg0.win 5).blk t).view.read (Elt Ideal) (result m c) := by
  have hN : t.val < 56 := lt56 t
  show (cfg0.win 5).cut (grid0.coords t) ((dats m 0 c).after 5 t) = _
  rw [after0_5]
  funext j
  rw [View.read_apply]
  have j0 : (j 0).val < 384 := (j 0).isLt
  have j1 : (j 1).val < 512 := (j 1).isLt
  have i0 := (idx5 t).1
  have i1 := (idx5 t).2
  show dxAt m c t _ = result m c _
  have key : ∀ (y : S1536x7168.Idx) (z : S384x512.Idx), (y 0).val = win0_5.index t 0 * 384 + 1 * (j 0).val → (y 1).val = win0_5.index t 1 * 512 + 1 * (j 1).val →
      (z 0).val = (j 0).val → (z 1).val = (j 1).val → dxAt m c t z = result m c y := by
    intro y z hy0 hy1 hz0 hz1
    unfold result
    dsimp only
    have et : t = ⟨14 * ((y 0).val / 384) + (y 1).val / 512, by have : cfg0.N = 56 := N_0; have h0 : (y 0).val < 1536 := (y 0).isLt; have h1 : (y 1).val < 7168 := (y 1).isLt; omega⟩ := by
      apply Fin.ext; show t.val = 14 * ((y 0).val / 384) + (y 1).val / 512
      rw [i0] at hy0; rw [i1] at hy1; omega
    rw [← et]
    refine congrArg (dxAt m c t) (ix2_ext ?_ ?_)
    · show (z 0).val = (y 0).val % 384; rw [i0] at hy0; omega
    · show (z 1).val = (y 1).val % 512; rw [i1] at hy1; omega
  exact key _ _ rfl rfl rfl rfl

/-- The result's array ends holding its blocks. -/
theorem final_o (c : Dev nD) : (dats m 0 c).arrAt 5 cfg0.N = result m c :=
  (dats m 0 c).arrAt_eq_of_cover 5 (result m c) (flushed_eq m c) fun i => by
    have h0 : (i 0 : Nat) < 1536 := (i 0).isLt
    have h1 : (i 1 : Nat) < 7168 := (i 1).isLt
    have hN : cfg0.N = 56 := N_0
    refine ⟨⟨14 * ((i 0).val / 384) + (i 1).val / 512, by omega⟩, flush0_5 _, ?_⟩
    generalize ht : (⟨14 * ((i 0).val / 384) + (i 1).val / 512, by omega⟩ : Fin cfg0.N) = t
    have hv : t.val = 14 * ((i 0).val / 384) + (i 1).val / 512 := by rw [← ht]
    have i0 := (idx5 t).1
    have i1 := (idx5 t).2
    show i ∈ ((View.whole main_v2).slice (win0_5.rect t)).set
    rw [View.set_slice_whole, Rect.mem_set_unit]
    intro a
    match a with
    | ⟨0, _⟩ => show win0_5.index t 0 * 384 ≤ (i 0 : Nat) ∧ (i 0 : Nat) < win0_5.index t 0 * 384 + 384
                rw [i0]; omega
    | ⟨1, _⟩ => show win0_5.index t 1 * 512 ≤ (i 1 : Nat) ∧ (i 1 : Nat) < win0_5.index t 1 * 512 + 512
                rw [i1]; omega

/-- The run, read: the array of the result, and the arguments unchanged. -/
theorem run_value : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c |>.1 5).trans (final_o m c), h.2 c⟩)
    (θ_run_and (run_main m ρ) (frame_of m ρ (dats m) (A_eq m) (run_main m ρ)))

end Cert.KernelIdeal.Gen

end
-- ==== Proof.Product.lean ====
/- The result of the kernel and the result of the reference, element by element: one sum of products. -/
module

public import proofs.«01_k».proof.Proof.Pipe
public import proofs.«01_k».proof.Proof.Codes
public import Idealize.ShloMosaic.Lib.MatmulPlain

@[expose] public section

set_option maxRecDepth 16384

noncomputable section

namespace Cert.Product

open Idealize.ShloMosaic Idealize.ShloMosaic.TcCoe Idealize.ShloMosaic.Tactic
open Idealize.SL.Sem
open Idealize.ShloMosaic.Pointwise Cert.Codes

/-- The product of the dequantised gradient and the dequantised weights, times the two global scales. -/
def target (Y : Vec Ideal Cert.KernelIdeal.S1536x2048 .bf16) (C : Vec Ideal Cert.KernelIdeal.S2048x3584 .i8)
    (S : Vec Ideal Cert.KernelIdeal.S128x448 .fp8e4m3) (w g : EReal) (r : Fin 1536) (n : Fin 7168) : EReal :=
  (∑ k : Fin 2048, (Y (ix2 r k) : EReal) * (refCode (refWord (C (ix2 k ⟨n.val / 2, by omega⟩)) ⟨n.val % 2, by omega⟩)
      * (S (ix2 ⟨k.val / 16, by omega⟩ ⟨n.val / 16, by omega⟩) : EReal))) * (g * w)

section Kernel
open Cert.KernelIdeal Cert.KernelIdeal.Gen

variable (m : (ℓ : Loc nD τ sig) → Buf (Elt Ideal) ℓ)

/-- A block of the result at an element: the sum over the rows of the weights. -/
theorem dxBlk_apply (n : Fin 14) (x0 : Vec Ideal S1x1 .f32) (x1 : Vec Ideal S1 .f32) (A : Vec Ideal S384x2048 .bf16) (D : Vec Ideal S14x2048x512 .bf16)
    (r : Fin 384) (q : Fin 512) :
    dxBlk n x0 x1 A D (ix2 r q) = (∑ k : Fin 2048, (A (ix2 r k) : EReal) * (D (ix3 n k q) : EReal)) * ((x0 (ix2 0 0) : EReal) * (x1 (ix1 0) : EReal)) := by
  have h := Ideal.matmul_plain_apply (φ₁ := .bf16) (φ₂ := .bf16) (M := 384) (K := 2048) (N := 512) none (A : FVec Ideal S384x2048 .bf16)
    (shapeCast S2048x512 (fun x : S1x2048x512.Idx => D (ix3 n (x 1) (x 2))) shapeCasts_S1x2048x512_S2048x512 : FVec Ideal S2048x512 .bf16) (constant S384x512 .f32 0x00000000#32) r q
  have hz : (constant (F := Ideal) S384x512 .f32 0x00000000#32 (ix2 r q) : EReal) = 0 := by
    show Ideal.ofBits .f32 0x00000000#32 = 0
    simp [Ideal.ofBits, Ideal.ieee]
  have hs : ∀ k : Fin 2048, shapeCast S2048x512 (fun x : S1x2048x512.Idx => D (ix3 n (x 1) (x 2))) shapeCasts_S1x2048x512_S2048x512 (ix2 k q) = D (ix3 n k q) := by
    intro k
    rw [shapeCast_apply _ shapeCasts_S1x2048x512_S2048x512 (ix2 k q) (ix3 (0 : Fin 1) k q) (by
      rw [Shape.rowMajor_val_three, Shape.rowMajor_val_two]
      show ((0 : ℕ) * 2048 + k.val) * 512 + q.val = k.val * 512 + q.val
      omega)]
    rfl
  refine congrArg (fun z : EReal => z * ((x0 (ix2 0 0) : EReal) * (x1 (ix1 0) : EReal))) (h.trans ?_)
  refine (congrArg (fun z : EReal => z + _) hz).trans ((zero_add _).trans ?_)
  exact Finset.sum_congr rfl fun k _ => congrArg (fun z : EReal => (A (ix2 r k) : EReal) * z) (hs k)

/-- A decoded weight is the reference's code times the weight's scale. -/
theorem wVal_apply (c : Dev nD) (n : Fin 14) (k : Fin 2048) (q : Fin 512) (j : Fin 7168) (hj : j.val = 512 * n.val + q.val) :
    (wVal m c (ix3 n k q) : EReal) = refCode (refWord (aC m c (ix2 k ⟨j.val / 2, by omega⟩)) ⟨j.val % 2, by omega⟩)
      * (aS m c (ix2 ⟨k.val / 16, by omega⟩ ⟨j.val / 16, by omega⟩) : EReal) := by
  have e1 : bC m c ⟨n.val, by have : cfg0.N = 56 := N_0; omega⟩ (ix2 k ⟨q.val / 2, by omega⟩) = aC m c (ix2 k ⟨j.val / 2, by omega⟩) := by
    rw [bC_apply m c _ (by show n.val < 14; omega)]
    refine congrArg (aC m c) (ix2_ext rfl ?_)
    show 256 * n.val + q.val / 2 = j.val / 2
    omega
  have e2 : expVal (aS m c) (ix3 ⟨4 * n.val + q.val / 128, by omega⟩ ⟨k.val / 16, by omega⟩ ⟨q.val % 128, by omega⟩) = (aS m c (ix2 ⟨k.val / 16, by omega⟩ ⟨j.val / 16, by omega⟩) : EReal) * ((64 : ℝ) : EReal) := by
    unfold expVal
    refine congrArg (fun z : EReal => z * ((64 : ℝ) : EReal)) (congrArg (aS m c) (ix2_ext rfl ?_))
    show 8 * (4 * n.val + q.val / 128) + q.val % 128 / 16 = j.val / 16
    omega
  have ep : (⟨q.val % 2, by omega⟩ : Fin 2) = ⟨j.val % 2, by omega⟩ := Fin.ext (by show q.val % 2 = j.val % 2; omega)
  show (Ideal.ofBits .fp8e4m3 (kerByte (bC m c ⟨n.val, by have : cfg0.N = 56 := N_0; omega⟩ (ix2 k ⟨q.val / 2, by omega⟩)) ⟨q.val % 2, by omega⟩) : EReal)
    * (expVal (aS m c) (ix3 ⟨4 * n.val + q.val / 128, by omega⟩ ⟨k.val / 16, by omega⟩ ⟨q.val % 128, by omega⟩) : EReal) = _
  rw [e1, e2, ep, ← code_val]
  generalize Ideal.ofBits .fp8e4m3 _ = a
  generalize (aS m c _ : EReal) = b
  rw [mul_comm b, ← mul_assoc]

/-- The kernel's result at an element. -/
theorem result_apply (c : Dev nD) (r : Fin 1536) (j : Fin 7168) :
    (result m c (ix2 r j) : EReal) = target (aY m c) (aC m c) (aS m c) (aW m c (ix1 0)) (aG m c (ix2 0 0)) r j := by
  have hN : cfg0.N = 56 := N_0
  show (dxAt m c ⟨14 * (r.val / 384) + j.val / 512, by omega⟩ (ix2 ⟨r.val % 384, by omega⟩ ⟨j.val % 512, by omega⟩) : EReal) = _
  generalize ht : (⟨14 * (r.val / 384) + j.val / 512, by omega⟩ : Fin cfg0.N) = t
  have hv : t.val = 14 * (r.val / 384) + j.val / 512 := by rw [← ht]
  unfold dxAt target
  rw [dxBlk_apply, bG_eq, bW_eq]
  refine congrArg (fun z : EReal => z * ((aG m c (ix2 0 0) : EReal) * (aW m c (ix1 0) : EReal))) (Finset.sum_congr rfl fun k _ => ?_)
  have hc := col_val t
  rw [wVal_apply m c (col (grid0.coords t)) k ⟨j.val % 512, by omega⟩ j (by show j.val = 512 * (col (grid0.coords t)).val + j.val % 512; omega), bY_apply]
  refine congrArg (fun z : EReal => z * _) (congrArg (aY m c) (ix2_ext ?_ rfl))
  show 384 * (t.val / 14) + r.val % 384 = r.val
  omega

theorem V_main_v0 (c : Dev nD) : aY m c = shapeCast S1536x2048 (m ((c.tc : Thread nD τ).loc main_arg0)) shapeCasts_S6x256x2048_S1536x2048 := by
  unfold aY V
  simp only [hostOps0, List.flatten_cons, List.flatten_nil, List.append_nil]
  after_results_simp
  rfl

theorem V_main_v1 (c : Dev nD) : aW m c = shapeCast S1 (m ((c.tc : Thread nD τ).loc main_arg3)) shapeCasts_S_S1 := by
  unfold aW V
  simp only [hostOps0, List.flatten_cons, List.flatten_nil, List.append_nil]
  after_results_simp
  rfl

end Kernel

section Reference
open Cert.ReferenceIdeal Cert.ReferenceIdeal.Gen Cert.ReferenceIdeal.Read Cert.ReferenceIdeal.Value

variable (m : (ℓ : Loc nD τ sig) → Buf (Elt Ideal) ℓ)

/-- The reference's dequantised weight at an element. -/
theorem ref_weight (x1 : IVec S2048x3584 8) (r0 : FVec Ideal S128x448 .bf16) (k : Fin 2048) (n : Fin 7168) :
    (val_main_v48 (F := Ideal) x1 r0 (ix2 k n) : EReal) = refCode (refWord (x1 (ix2 k ⟨n.val / 2, by omega⟩)) ⟨n.val % 2, by omega⟩)
      * (r0 (ix2 ⟨k.val / 16, by omega⟩ ⟨n.val / 16, by omega⟩) : EReal) := by
  rw [val_main_v48_apply, val_main_v47_apply, val_main_v44_apply, val_main_v46_apply, val_main_v45_apply]
  have e1 : idx_main_v44 (idx_main_v48 (ix2 k n)) = ix3 k ⟨n.val / 2, by omega⟩ ⟨n.val % 2, by omega⟩ := by
    apply Cert.KernelIdeal.Gen.ix3_ext
    · show (((((k.val * 7168 + n.val) / 114688 * 16 + (k.val * 7168 + n.val) / 7168 % 16) * 448 + (k.val * 7168 + n.val) / 16 % 448) * 8 + (k.val * 7168 + n.val) / 2 % 8) * 2 + (k.val * 7168 + n.val) % 2) / 7168 = k.val
      omega
    · show (((((k.val * 7168 + n.val) / 114688 * 16 + (k.val * 7168 + n.val) / 7168 % 16) * 448 + (k.val * 7168 + n.val) / 16 % 448) * 8 + (k.val * 7168 + n.val) / 2 % 8) * 2 + (k.val * 7168 + n.val) % 2) / 2 % 3584 = n.val / 2
      omega
    · show (((((k.val * 7168 + n.val) / 114688 * 16 + (k.val * 7168 + n.val) / 7168 % 16) * 448 + (k.val * 7168 + n.val) / 16 % 448) * 8 + (k.val * 7168 + n.val) / 2 % 8) * 2 + (k.val * 7168 + n.val) % 2) % 2 = n.val % 2
      omega
  have e2 : idx_main_v45 (idx_main_v46 (idx_main_v48 (ix2 k n))) = ix2 ⟨k.val / 16, by omega⟩ ⟨n.val / 16, by omega⟩ := by
    apply Cert.KernelIdeal.Gen.ix2_ext
    · show (k.val * 7168 + n.val) / 114688 = k.val / 16
      omega
    · show (k.val * 7168 + n.val) / 16 % 448 = n.val / 16
      omega
  rw [e1, e2, ref_code]
  rfl

/-- The reference's small kernel leaves the scales: over the reals the cast is the identity. -/
theorem scales_eq (c : Dev nD) : (reg_main_v0 m c : S128x448.Idx → EReal) = m ((c.tc : Thread nD τ).loc main_arg2) := by
  have hN : cfg0.N = 1 := by rfl
  have hb : ∀ t : Fin cfg0.N, (iblk m c 0 t : S128x448.Idx → EReal) = m ((c.tc : Thread nD τ).loc main_arg2) := by
    intro t
    funext j
    unfold iblk
    rw [View.read_apply]
    show V m c main_arg2 _ = m ((c.tc : Thread nD τ).loc main_arg2) j
    rw [V_main_arg2]
    refine congrArg (m ((c.tc : Thread nD τ).loc main_arg2)) (Cert.KernelIdeal.Gen.ix2_ext ?_ ?_)
    · show 0 * 128 + 1 * (j 0).val = (j 0).val; omega
    · show 0 * 448 + 1 * (j 1).val = (j 1).val; omega
  have ho : ∀ x0 : Vec Ideal S128x448 .fp8e4m3, (out0_1 x0 : S128x448.Idx → EReal) = x0 := by
    intro x0
    unfold out0_1
    rw [View.canon_unit_zero]
    swap
    · exact funext fun a => by fin_cases a <;> rfl
    funext j
    show (View.ld x0 r0_0 j : EReal) = x0 j
    rw [View.ld_unit_zero]
    all_goals exact funext fun a => by fin_cases a <;> rfl
  unfold reg_main_v0
  refine (Gen.dats m 0 c).arrAt_eq_of_cover 1 (m ((c.tc : Thread nD τ).loc main_arg2) : S128x448.Idx → EReal) ?_ ?_
  · intro t hf
    show (cfg0.win 1).cut (grid0.coords t) ((Gen.dats m 0 c).after 1 t) = _
    rw [after0_1]
    funext j
    rw [View.read_apply]
    show (out0_1 (iblk m c 0 t) _ : EReal) = _
    erw [ho, hb]
    refine congrArg (m ((c.tc : Thread nD τ).loc main_arg2)) (Cert.KernelIdeal.Gen.ix2_ext ?_ ?_)
    · show (j 0).val = 0 * 128 + 1 * (j 0).val; omega
    · show (j 1).val = 0 * 448 + 1 * (j 1).val; omega
  · intro i
    have h0 : (i 0 : Nat) < 128 := (i 0).isLt
    have h1 : (i 1 : Nat) < 448 := (i 1).isLt
    obtain ⟨t⟩ : Nonempty (Fin cfg0.N) := ⟨⟨0, by rw [hN]; exact Nat.one_pos⟩⟩
    refine ⟨t, flush0_1 _, ?_⟩
    show i ∈ ((View.whole main_v0).slice (win0_1.rect t)).set
    rw [View.set_slice_whole, Rect.mem_set_unit]
    intro a
    match a with
    | ⟨0, _⟩ => show 0 * 128 ≤ (i 0 : Nat) ∧ (i 0 : Nat) < 0 * 128 + 128
                omega
    | ⟨1, _⟩ => show 0 * 448 ≤ (i 1 : Nat) ∧ (i 1 : Nat) < 0 * 448 + 448
                omega

/-- The reference's result at an element. -/
theorem ref_apply (x0 : FVec Ideal S6x256x2048 .bf16) (x1 : IVec S2048x3584 8) (x3 : FVec Ideal S_ .f32) (x4 : FVec Ideal S1x1 .f32) (r0 : FVec Ideal S128x448 .bf16) (r : Fin 1536) (n : Fin 7168) :
    (val_main_v55 (F := Ideal) x0 x1 x3 x4 r0 (ix2 r n) : EReal) =
      target (shapeCast S1536x2048 x0 shapeCasts_S6x256x2048_S1536x2048) x1 r0 (shapeCast Cert.KernelIdeal.S1 x3 Cert.KernelIdeal.Gen.facts.shapeCasts_S_S1 (ix1 0)) (x4 (ix2 0 0)) r n := by
  rw [val_main_v55_apply, val_main_v54_apply, val_main_v50_apply, val_main_v53_apply, val_main_v52_apply]
  have hl : ∀ k, lidx_main_v50 (ix2 r n) k = ix2 r k := fun k => Cert.KernelIdeal.Gen.ix2_ext rfl rfl
  have hr : ∀ k, ridx_main_v50 (ix2 r n) k = ix2 k n := fun k => Cert.KernelIdeal.Gen.ix2_ext rfl rfl
  have hg : val_main_v51 (F := Ideal) x4 (idx_main_v53 (ix2 r n)) = x4 (ix2 0 0) := by
    unfold val_main_v51
    exact shapeCast_apply x4 shapeCasts_S1x1_S_ _ (ix2 0 0) (by
      have h1 := (S1x1.rowMajor (ix2 0 0)).isLt
      have h2 := (S_.rowMajor (idx_main_v53 (ix2 r n))).isLt
      have e1 : S1x1.numel = 1 := by rfl
      have e2 : S_.numel = 1 := by rfl
      omega)
  have hw : shapeCast Cert.KernelIdeal.S1 x3 Cert.KernelIdeal.Gen.facts.shapeCasts_S_S1 (ix1 0) = x3 (idx_main_v53 (ix2 r n)) := by
    refine congrArg x3 (funext fun a => a.elim0)
  rw [hg]
  unfold target
  rw [hw]
  show (∑ k : Fin 2048, (val_main_v49 (F := Ideal) x0 (lidx_main_v50 (ix2 r n) k) : EReal) * (val_main_v48 (F := Ideal) x1 r0 (ridx_main_v50 (ix2 r n) k) : EReal)) * ((x4 (ix2 0 0) : EReal) * (x3 (idx_main_v53 (ix2 r n)) : EReal)) = _
  refine congrArg (fun z : EReal => z * _) (Finset.sum_congr rfl fun k _ => ?_)
  rw [hl, hr, ref_weight]
  rfl

end Reference

end Cert.Product

end
-- ==== Proof.lean ====
/- The claims about the slice of the main call: the three frames, and the equality of its result with the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Pipe
public import proofs.«01_k».proof.Proof.Product
public import Idealize.ShloMosaic.Adequacy
public import Idealize.ShloMosaic.Init

@[expose] public section

noncomputable section

namespace Cert.Proof

open Idealize.ShloMosaic Idealize.ShloMosaic.TcCoe Idealize.SL.Sem Idealize.ShloMosaic.Pointwise

/-- From equal arguments the reference ends with the array that the kernel ends with. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Read.val_main_v55 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (Cert.ReferenceIdeal.Value.reg_main_v0 m' c) = Cert.KernelIdeal.Gen.result m c := by
  funext y
  obtain ⟨r, j, rfl⟩ : ∃ (r : Fin 1536) (j : Fin 7168), y = ix2 r j := ⟨y 0, y 1, Cert.KernelIdeal.Gen.ix2_ext rfl rfl⟩
  refine (Cert.Product.ref_apply _ _ _ _ _ r j).trans (Eq.trans ?_ (Cert.Product.result_apply m c r j).symm)
  have e0 := Cert.Product.V_main_v0 m c
  have e1 := Cert.KernelIdeal.Gen.V_main_arg1 m c
  have e2 := Cert.KernelIdeal.Gen.V_main_arg2 m c
  have e3 := Cert.Product.V_main_v1 m c
  have e4 := Cert.KernelIdeal.Gen.V_main_arg4 m c
  have es := (Cert.Product.scales_eq m' c).trans h2
  rw [h0, h1, h3, h4]
  unfold Cert.Product.target
  rw [e0, e3]
  unfold Cert.KernelIdeal.Gen.aC Cert.KernelIdeal.Gen.aS Cert.KernelIdeal.Gen.aG
  rw [e1, e2, e4]
  erw [es]

/-- The kernel and the reference end with equal results over the extended reals. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.result m c, Cert.KernelIdeal.Gen.run_value m g, ?_⟩
  refine (θ_run (Cert.ReferenceIdeal.defs (F := Ideal)) _ _).mono (fun r h c => ?_) (Cert.ReferenceIdeal.Value.run (F := Ideal) m' g')
  obtain ⟨hv, hk⟩ := h c
  obtain ⟨h0, h1, h2, h3, h4⟩ := hargs c
  refine ⟨hv.trans ((Cert.ReferenceIdeal.Read.val_main_v55_eq (Cert.ReferenceIdeal.Value.exitV m' c)).trans ?_), hk⟩
  rw [Cert.ReferenceIdeal.Value.exit_main_arg0, Cert.ReferenceIdeal.Value.exit_main_arg1, Cert.ReferenceIdeal.Value.exit_main_arg3,
    Cert.ReferenceIdeal.Value.exit_main_arg4, Cert.ReferenceIdeal.Value.exit_main_v0]
  exact result_eq m m' c h0 h1 h2 h3 h4

/-- All the claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, fun m g _ => Cert.ReferenceIdeal.Gen.frame m g,
    trivial, algebraic⟩

end Cert.Proof

end
